-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x512x6144 : Shape := ⟨3, ![12, 512, 6144]⟩
abbrev S10752x24x2x64 : Shape := ⟨4, ![10752, 24, 2, 64]⟩
abbrev S10752x24x2x32 : Shape := ⟨4, ![10752, 24, 2, 32]⟩
abbrev S10752x24x16 : Shape := ⟨3, ![10752, 24, 16]⟩
abbrev S10752x24 : Shape := ⟨2, ![10752, 24]⟩
abbrev S6144x6144 : Shape := ⟨2, ![6144, 6144]⟩
abbrev S24x2x64x10752 : Shape := ⟨4, ![24, 2, 64, 10752]⟩
abbrev S3072x10752 : Shape := ⟨2, ![3072, 10752]⟩
abbrev S24x2x32x10752 : Shape := ⟨4, ![24, 2, 32, 10752]⟩
abbrev S1536x10752 : Shape := ⟨2, ![1536, 10752]⟩
abbrev S24x16x10752 : Shape := ⟨3, ![24, 16, 10752]⟩
abbrev S24x10752 : Shape := ⟨2, ![24, 10752]⟩
abbrev S6144x10752 : Shape := ⟨2, ![6144, 10752]⟩
abbrev S1024x6144 : Shape := ⟨2, ![1024, 6144]⟩
abbrev S3072x512 : Shape := ⟨2, ![3072, 512]⟩
abbrev S1536x512 : Shape := ⟨2, ![1536, 512]⟩
abbrev S24x16x512 : Shape := ⟨3, ![24, 16, 512]⟩
abbrev S24x512 : Shape := ⟨2, ![24, 512]⟩
abbrev S1024x512 : Shape := ⟨2, ![1024, 512]⟩
abbrev S6144x512 : Shape := ⟨2, ![6144, 512]⟩
abbrev S16x512 : Shape := ⟨2, ![16, 512]⟩
abbrev S1x512 : Shape := ⟨2, ![1, 512]⟩
abbrev S1x16x512 : Shape := ⟨3, ![1, 16, 512]⟩
abbrev S32x512 : Shape := ⟨2, ![32, 512]⟩
abbrev S8x512 : Shape := ⟨2, ![8, 512]⟩

abbrev nBuf : Space → Nat
  | .hbm => 13
  | .vmem => 14
  | .smem => 0
  | _ => 0

abbrev bufTy : (tb : Table) → Fin (tcTables nBuf tb) → BufTy
  | .hbm, ⟨0, _⟩ => ⟨S12x512x6144, .bf16⟩
  | .hbm, ⟨1, _⟩ => ⟨S10752x24x2x64, .i8⟩
  | .hbm, ⟨2, _⟩ => ⟨S10752x24x2x32, .i8⟩
  | .hbm, ⟨3, _⟩ => ⟨S10752x24x16, .i8⟩
  | .hbm, ⟨4, _⟩ => ⟨S10752x24, .f16⟩
  | .hbm, ⟨5, _⟩ => ⟨S6144x6144, .bf16⟩
  | .hbm, ⟨6, _⟩ => ⟨S24x2x64x10752, .i8⟩
  | .hbm, ⟨7, _⟩ => ⟨S3072x10752, .i8⟩
  | .hbm, ⟨8, _⟩ => ⟨S24x2x32x10752, .i8⟩
  | .hbm, ⟨9, _⟩ => ⟨S1536x10752, .i8⟩
  | .hbm, ⟨10, _⟩ => ⟨S24x16x10752, .i8⟩
  | .hbm, ⟨11, _⟩ => ⟨S24x10752, .f16⟩
  | .hbm, ⟨12, _⟩ => ⟨S6144x10752, .bf16⟩
  | .local _ .vmem, ⟨0, _⟩ => ⟨S1024x6144, .bf16⟩
  | .local _ .vmem, ⟨1, _⟩ => ⟨S1024x6144, .bf16⟩
  | .local _ .vmem, ⟨2, _⟩ => ⟨S3072x512, .i8⟩
  | .local _ .vmem, ⟨3, _⟩ => ⟨S3072x512, .i8⟩
  | .local _ .vmem, ⟨4, _⟩ => ⟨S1536x512, .i8⟩
  | .local _ .vmem, ⟨5, _⟩ => ⟨S1536x512, .i8⟩
  | .local _ .vmem, ⟨6, _⟩ => ⟨S24x16x512, .i8⟩
  | .local _ .vmem, ⟨7, _⟩ => ⟨S24x16x512, .i8⟩
  | .local _ .vmem, ⟨8, _⟩ => ⟨S24x512, .f16⟩
  | .local _ .vmem, ⟨9, _⟩ => ⟨S24x512, .f16⟩
  | .local _ .vmem, ⟨10, _⟩ => ⟨S1024x512, .bf16⟩
  | .local _ .vmem, ⟨11, _⟩ => ⟨S1024x512, .bf16⟩
  | .local _ .vmem, ⟨12, _⟩ => ⟨S6144x512, .bf16⟩
  | .local _ .vmem, ⟨13, _⟩ => ⟨S16x512, .f32⟩
  | _, _ => ⟨S12x512x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![21, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c24_i32 : BitVec 32 := 24#32
  let v9 : BitVec 32 := Scalar.addi c0_i32_6 c24_i32
  let c1_i32 : BitVec 32 := 1#32
  ⟨c0_i32_6, v9, c1_i32⟩
def k0_off1 (k0_t1 : Fin k0_t1_loop.trips) : Fin 2 → Nat :=
  let c0_i32_9 : BitVec 32 := 0#32
  let c0_i32_6 : BitVec 32 := 0#32
  let c1_i32 : BitVec 32 := 1#32
  let arg10 : BitVec 32 := Scf.iv c0_i32_6 c1_i32 k0_t1
  let c1_i32_8 : BitVec 32 := 1#32
  let v10 : BitVec 32 := Scalar.muli arg10 c1_i32_8
  let v11 : BitVec 32 := Scalar.addi c0_i32_9 v10
  let v12 : Index := Scalar.indexCast v11
  let c0_10 : Index := 0#32
  ![v12.toNat, 0]
def k0_off2 (k0_t1 : Fin k0_t1_loop.trips) : Fin 3 → Nat :=
  let c0_i32_9 : BitVec 32 := 0#32
  let c0_i32_6 : BitVec 32 := 0#32
  let c1_i32 : BitVec 32 := 1#32
  let arg10 : BitVec 32 := Scf.iv c0_i32_6 c1_i32 k0_t1
  let c1_i32_8 : BitVec 32 := 1#32
  let v10 : BitVec 32 := Scalar.muli arg10 c1_i32_8
  let v11 : BitVec 32 := Scalar.addi c0_i32_9 v10
  let v16 : Index := Scalar.indexCast v11
  let c0_11 : Index := 0#32
  let c0_12 : Index := 0#32
  ![v16.toNat, 0, 0]
def k0_off3 (k0_t1 : Fin k0_t1_loop.trips) (c0_i32_16 : BitVec 32) : Fin 2 → Nat :=
  let c2_i32_17 : BitVec 32 := 2#32
  let c0_i32_9 : BitVec 32 := 0#32
  let c0_i32_6 : BitVec 32 := 0#32
  let c1_i32 : BitVec 32 := 1#32
  let arg10 : BitVec 32 := Scf.iv c0_i32_6 c1_i32 k0_t1
  let c1_i32_8 : BitVec 32 := 1#32
  let v10 : BitVec 32 := Scalar.muli arg10 c1_i32_8
  let v11 : BitVec 32 := Scalar.addi c0_i32_9 v10
  let c2_i32 : BitVec 32 := 2#32
  let v29 : BitVec 32 := Scalar.muli v11 c2_i32
  let v30 : BitVec 32 := Scalar.addi v29 c0_i32_16
  let c32_i32 : BitVec 32 := 32#32
  let v31 : BitVec 32 := Scalar.muli v30 c32_i32
  let v32 : BitVec 32 := Scalar.muli c2_i32_17 v31
  let v33 : Index := Scalar.indexCast v32
  let c0_18 : Index := 0#32
  ![v33.toNat, 0]
def k0_off4 (k0_t1 : Fin k0_t1_loop.trips) (c0_i32_16 : BitVec 32) : Fin 2 → Nat :=
  let c2_i32_19 : BitVec 32 := 2#32
  let c0_i32_9 : BitVec 32 := 0#32
  let c0_i32_6 : BitVec 32 := 0#32
  let c1_i32 : BitVec 32 := 1#32
  let arg10 : BitVec 32 := Scf.iv c0_i32_6 c1_i32 k0_t1
  let c1_i32_8 : BitVec 32 := 1#32
  let v10 : BitVec 32 := Scalar.muli arg10 c1_i32_8
  let v11 : BitVec 32 := Scalar.addi c0_i32_9 v10
  let c2_i32 : BitVec 32 := 2#32
  let v29 : BitVec 32 := Scalar.muli v11 c2_i32
  let v30 : BitVec 32 := Scalar.addi v29 c0_i32_16
  let c32_i32 : BitVec 32 := 32#32
  let v31 : BitVec 32 := Scalar.muli v30 c32_i32
  let v37 : BitVec 32 := Scalar.muli c2_i32_19 v31
  let c32_i32_20 : BitVec 32 := 32#32
  let v38 : BitVec 32 := Scalar.addi v37 c32_i32_20
  let v39 : Index := Scalar.indexCast v38
  let c0_21 : Index := 0#32
  ![v39.toNat, 0]
def k0_off5 (k0_t1 : Fin k0_t1_loop.trips) (c0_i32_16 : BitVec 32) : Fin 2 → Nat :=
  let c0_i32_9 : BitVec 32 := 0#32
  let c0_i32_6 : BitVec 32 := 0#32
  let c1_i32 : BitVec 32 := 1#32
  let arg10 : BitVec 32 := Scf.iv c0_i32_6 c1_i32 k0_t1
  let c1_i32_8 : BitVec 32 := 1#32
  let v10 : BitVec 32 := Scalar.muli arg10 c1_i32_8
  let v11 : BitVec 32 := Scalar.addi c0_i32_9 v10
  let c2_i32 : BitVec 32 := 2#32
  let v29 : BitVec 32 := Scalar.muli v11 c2_i32
  let v30 : BitVec 32 := Scalar.addi v29 c0_i32_16
  let c32_i32 : BitVec 32 := 32#32
  let v31 : BitVec 32 := Scalar.muli v30 c32_i32
  let v43 : Index := Scalar.indexCast v31
  let c0_22 : Index := 0#32
  ![v43.toNat, 0]
def k0_off6 (k0_t1 : Fin k0_t1_loop.trips) (c0_i32_36 : BitVec 32) : Fin 2 → Nat :=
  let c0_i32_9 : BitVec 32 := 0#32
  let c0_i32_6 : BitVec 32 := 0#32
  let c1_i32 : BitVec 32 := 1#32
  let arg10 : BitVec 32 := Scf.iv c0_i32_6 c1_i32 k0_t1
  let c1_i32_8 : BitVec 32 := 1#32
  let v10 : BitVec 32 := Scalar.muli arg10 c1_i32_8
  let v11 : BitVec 32 := Scalar.addi c0_i32_9 v10
  let c256_i32 : BitVec 32 := 256#32
  let v89 : BitVec 32 := Scalar.muli v11 c256_i32
  let v90 : BitVec 32 := Scalar.addi v89 c0_i32_36
  let v93 : Index := Scalar.indexCast v90
  let c0_37 : Index := 0#32
  ![v93.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3072x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S24x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S24x512 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S12x512x6144 : Shape := ⟨3, ![12, 512, 6144]⟩
abbrev S10752x24x2x64 : Shape := ⟨4, ![10752, 24, 2, 64]⟩
abbrev S10752x24x2x32 : Shape := ⟨4, ![10752, 24, 2, 32]⟩
abbrev S10752x24x16 : Shape := ⟨3, ![10752, 24, 16]⟩
abbrev S10752x24 : Shape := ⟨2, ![10752, 24]⟩
abbrev S_ : Shape := ⟨0, ![]⟩
abbrev S10752x24x1 : Shape := ⟨3, ![10752, 24, 1]⟩
abbrev S10752x24x2x4x2 : Shape := ⟨5, ![10752, 24, 2, 4, 2]⟩
abbrev S12x512x24x2x4x32 : Shape := ⟨6, ![12, 512, 24, 2, 4, 32]⟩
abbrev S10752x24x2x2x16 : Shape := ⟨5, ![10752, 24, 2, 2, 16]⟩
abbrev S10752x24x2x1x2 : Shape := ⟨5, ![10752, 24, 2, 1, 2]⟩
abbrev S10752x24x2x2 : Shape := ⟨4, ![10752, 24, 2, 2]⟩
abbrev S10752x24x2x2x1 : Shape := ⟨5, ![10752, 24, 2, 2, 1]⟩
abbrev S12x512x24x2x1x32 : Shape := ⟨6, ![12, 512, 24, 2, 1, 32]⟩
abbrev S12x512x24x2x32 : Shape := ⟨5, ![12, 512, 24, 2, 32]⟩
abbrev S12x512x10752 : Shape := ⟨3, ![12, 512, 10752]⟩
abbrev S6144x10752 : Shape := ⟨2, ![6144, 10752]⟩

abbrev nBuf : Space → Nat
  | .hbm => 129
  | .vmem => 2
  | .smem => 0
  | _ => 0

abbrev hbmTy0_0 (i : Nat) : BufTy := match i % 128 with
  | 0 => ⟨S12x512x6144, .bf16⟩
  | 1 => ⟨S10752x24x2x64, .i8⟩
  | 2 => ⟨S10752x24x2x32, .i8⟩
  | 3 => ⟨S10752x24x16, .i8⟩
  | 4 => ⟨S10752x24, .f16⟩
  | 5 => ⟨S10752x24, .f32⟩
  | 6 => ⟨S10752x24x2x32, .i8⟩
  | 7 => ⟨S10752x24x2x32, .i32⟩
  | 8 => ⟨S10752x24x2x32, .i8⟩
  | 9 => ⟨S10752x24x2x32, .i32⟩
  | 10 => ⟨S10752x24x2x32, .i32⟩
  | 11 => ⟨S_, .i32⟩
  | 12 => ⟨S10752x24x2x32, .i32⟩
  | 13 => ⟨S10752x24x2x32, .i32⟩
  | 14 => ⟨S_, .i32⟩
  | 15 => ⟨S10752x24x2x32, .i32⟩
  | 16 => ⟨S10752x24x2x32, .i32⟩
  | 17 => ⟨S_, .i32⟩
  | 18 => ⟨S10752x24x2x32, .i32⟩
  | 19 => ⟨S10752x24x2x32, .i32⟩
  | 20 => ⟨S10752x24x2x32, .i32⟩
  | 21 => ⟨S_, .i32⟩
  | 22 => ⟨S10752x24x2x32, .i32⟩
  | 23 => ⟨S10752x24x2x32, .i32⟩
  | 24 => ⟨S_, .i32⟩
  | 25 => ⟨S10752x24x2x32, .i32⟩
  | 26 => ⟨S10752x24x2x32, .i32⟩
  | 27 => ⟨S_, .i32⟩
  | 28 => ⟨S10752x24x2x32, .i32⟩
  | 29 => ⟨S10752x24x2x32, .i32⟩
  | 30 => ⟨S_, .i32⟩
  | 31 => ⟨S10752x24x2x32, .i32⟩
  | 32 => ⟨S10752x24x2x32, .i32⟩
  | 33 => ⟨S10752x24x2x32, .i32⟩
  | 34 => ⟨S_, .i32⟩
  | 35 => ⟨S10752x24x2x32, .i32⟩
  | 36 => ⟨S10752x24x2x32, .i32⟩
  | 37 => ⟨S_, .i32⟩
  | 38 => ⟨S10752x24x2x32, .i32⟩
  | 39 => ⟨S10752x24x2x32, .i32⟩
  | 40 => ⟨S_, .i32⟩
  | 41 => ⟨S10752x24x2x32, .i32⟩
  | 42 => ⟨S10752x24x2x32, .i32⟩
  | 43 => ⟨S_, .i32⟩
  | 44 => ⟨S10752x24x2x32, .i32⟩
  | 45 => ⟨S10752x24x2x32, .i32⟩
  | 46 => ⟨S10752x24x2x32, .i32⟩
  | 47 => ⟨S_, .i32⟩
  | 48 => ⟨S10752x24x2x32, .i32⟩
  | 49 => ⟨S10752x24x2x32, .i32⟩
  | 50 => ⟨S_, .i32⟩
  | 51 => ⟨S10752x24x2x32, .i32⟩
  | 52 => ⟨S10752x24x2x32, .i32⟩
  | 53 => ⟨S_, .i32⟩
  | 54 => ⟨S10752x24x2x32, .i32⟩
  | 55 => ⟨S10752x24x2x32, .i32⟩
  | 56 => ⟨S_, .i32⟩
  | 57 => ⟨S10752x24x2x32, .i32⟩
  | 58 => ⟨S10752x24x2x32, .i32⟩
  | 59 => ⟨S10752x24x2x32, .i32⟩
  | 60 => ⟨S10752x24x16, .i32⟩
  | 61 => ⟨S10752x24x16, .f32⟩
  | 62 => ⟨S10752x24x1, .f32⟩
  | 63 => ⟨S10752x24x16, .f32⟩
  | 64 => ⟨S10752x24x16, .f32⟩
  | 65 => ⟨S10752x24x16, .bf16⟩
  | 66 => ⟨S10752x24x2x4x2, .bf16⟩
  | 67 => ⟨S12x512x24x2x4x32, .bf16⟩
  | 68 => ⟨S10752x24x2x32, .bf16⟩
  | 69 => ⟨S_, .bf16⟩
  | 70 => ⟨S10752x24x2x32, .bf16⟩
  | 71 => ⟨S10752x24x2x32, .bf16⟩
  | 72 => ⟨S10752x24x2x2x16, .bf16⟩
  | 73 => ⟨S10752x24x2x1x2, .bf16⟩
  | 74 => ⟨S10752x24x2x2, .bf16⟩
  | 75 => ⟨S10752x24x2x2x1, .bf16⟩
  | 76 => ⟨S10752x24x2x2x16, .bf16⟩
  | 77 => ⟨S10752x24x2x2x16, .bf16⟩
  | 78 => ⟨S10752x24x2x32, .bf16⟩
  | 79 => ⟨S12x512x24x2x1x32, .bf16⟩
  | 80 => ⟨S12x512x24x2x32, .bf16⟩
  | 81 => ⟨S12x512x10752, .f32⟩
  | 82 => ⟨S10752x24x2x32, .bf16⟩
  | 83 => ⟨S_, .bf16⟩
  | 84 => ⟨S10752x24x2x32, .bf16⟩
  | 85 => ⟨S10752x24x2x32, .bf16⟩
  | 86 => ⟨S10752x24x2x2x16, .bf16⟩
  | 87 => ⟨S10752x24x2x1x2, .bf16⟩
  | 88 => ⟨S10752x24x2x2, .bf16⟩
  | 89 => ⟨S10752x24x2x2x1, .bf16⟩
  | 90 => ⟨S10752x24x2x2x16, .bf16⟩
  | 91 => ⟨S10752x24x2x2x16, .bf16⟩
  | 92 => ⟨S10752x24x2x32, .bf16⟩
  | 93 => ⟨S12x512x24x2x1x32, .bf16⟩
  | 94 => ⟨S12x512x24x2x32, .bf16⟩
  | 95 => ⟨S12x512x10752, .f32⟩
  | 96 => ⟨S12x512x10752, .f32⟩
  | 97 => ⟨S10752x24x2x32, .bf16⟩
  | 98 => ⟨S_, .bf16⟩
  | 99 => ⟨S10752x24x2x32, .bf16⟩
  | 100 => ⟨S10752x24x2x32, .bf16⟩
  | 101 => ⟨S10752x24x2x2x16, .bf16⟩
  | 102 => ⟨S10752x24x2x1x2, .bf16⟩
  | 103 => ⟨S10752x24x2x2, .bf16⟩
  | 104 => ⟨S10752x24x2x2x1, .bf16⟩
  | 105 => ⟨S10752x24x2x2x16, .bf16⟩
  | 106 => ⟨S10752x24x2x2x16, .bf16⟩
  | 107 => ⟨S10752x24x2x32, .bf16⟩
  | 108 => ⟨S12x512x24x2x1x32, .bf16⟩
  | 109 => ⟨S12x512x24x2x32, .bf16⟩
  | 110 => ⟨S12x512x10752, .f32⟩
  | 111 => ⟨S12x512x10752, .f32⟩
  | 112 => ⟨S10752x24x2x32, .bf16⟩
  | 113 => ⟨S_, .bf16⟩
  | 114 => ⟨S10752x24x2x32, .bf16⟩
  | 115 => ⟨S10752x24x2x32, .bf16⟩
  | 116 => ⟨S10752x24x2x2x16, .bf16⟩
  | 117 => ⟨S10752x24x2x1x2, .bf16⟩
  | 118 => ⟨S10752x24x2x2, .bf16⟩
  | 119 => ⟨S10752x24x2x2x1, .bf16⟩
  | 120 => ⟨S10752x24x2x2x16, .bf16⟩
  | 121 => ⟨S10752x24x2x2x16, .bf16⟩
  | 122 => ⟨S10752x24x2x32, .bf16⟩
  | 123 => ⟨S12x512x24x2x1x32, .bf16⟩
  | 124 => ⟨S12x512x24x2x32, .bf16⟩
  | 125 => ⟨S12x512x10752, .f32⟩
  | 126 => ⟨S12x512x10752, .f32⟩
  | 127 => ⟨S12x512x10752, .bf16⟩
  | _ => ⟨S12x512x6144, .bf16⟩

abbrev hbmTy0_1 (i : Nat) : BufTy := match i % 128 with
  | 0 => ⟨S6144x10752, .bf16⟩
  | _ => ⟨S12x512x6144, .bf16⟩

abbrev hbmTy (i : Nat) : BufTy := match i / 128 with
  | 0 => hbmTy0_0 i
  | 1 => hbmTy0_1 i
  | _ => ⟨S12x512x6144, .bf16⟩

abbrev bufTy : (tb : Table) → Fin (tcTables nBuf tb) → BufTy
  | .hbm, ⟨i, _⟩ => hbmTy i
  | .local _ .vmem, ⟨0, _⟩ => ⟨S10752x24, .f16⟩
  | .local _ .vmem, ⟨1, _⟩ => ⟨S10752x24, .f32⟩
  | _, _ => ⟨S12x512x6144, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_c_11 : Ref sig .tc := ⟨.hbm, 50, rfl⟩
abbrev main_v33 : Ref sig .tc := ⟨.hbm, 51, rfl⟩
abbrev main_v34 : Ref sig .tc := ⟨.hbm, 52, rfl⟩
abbrev main_c_12 : Ref sig .tc := ⟨.hbm, 53, rfl⟩
abbrev main_v35 : Ref sig .tc := ⟨.hbm, 54, rfl⟩
abbrev main_v36 : Ref sig .tc := ⟨.hbm, 55, rfl⟩
abbrev main_c_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_16 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S10752x24 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10752x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelFrame.lean ====
/-
  The frame of the printed kernel, and that it leaves every semaphore counter at zero. Nothing is said here of the
  result: the output window is forgotten, and both scratch buffers go in and out of every grid point at any contents.
  A grid point is run once for each value of the body's branch condition; the counted loop of the first case goes by
  its generated invariant.
-/
module

public import proofs.«01_k».proof.Proof.Gen.Kernel
public import proofs.«01_k».proof.Proof.Gen.Kernel.Loops
public import proofs.«01_k».proof.Proof.Gen.Kernel.Frame
public import Idealize.ShloMosaic.Lib.Tactic
public import Idealize.ShloMosaic.Lib.Pipeline.Kit

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch operands. -/
abbrev scM0 : Memref sig .tc .vmem S6144x512 .bf16 := Memref.whole cc0_scratch0
abbrev scM1 : Memref sig .tc .vmem S16x512 .f32 := Memref.whole cc0_scratch1

/-- The region's invariant with the two scratch buffers spelt as memrefs. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

set_option maxHeartbeats 4000000 in
/-- One run of the body, at any grid point and any whole memrefs: the inputs come back as they were, the output block
    and the two scratch buffers at some contents. -/
theorem bodyRun (c : Dev nD) (i : grid0.Coords) (arg2 : Memref sig .tc .vmem S1024x6144 .bf16) (harg2 : arg2.IsWhole) (arg3 : Memref sig .tc .vmem S3072x512 .i8) (harg3 : arg3.IsWhole) (arg4 : Memref sig .tc .vmem S1536x512 .i8) (harg4 : arg4.IsWhole) (arg5 : Memref sig .tc .vmem S24x16x512 .i8) (harg5 : arg5.IsWhole) (arg6 : Memref sig .tc .vmem S24x512 .f16) (harg6 : arg6.IsWhole) (arg7 : Memref sig .tc .vmem S1024x512 .bf16) (harg7 : arg7.IsWhole) (arg8 : Memref sig .tc .vmem S6144x512 .bf16) (harg8 : arg8.IsWhole) (arg9 : Memref sig .tc .vmem S16x512 .f32) (harg9 : arg9.IsWhole)
    (x0 : Vec F S1024x6144 .bf16) (x1 : Vec F S3072x512 .i8) (x2 : Vec F S1536x512 .i8) (x3 : Vec F S24x16x512 .i8) (x4 : Vec F S24x512 .f16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  by_cases hc : k0_cond1 i = 1#1
  all_goals
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

/-- The output window is forgotten. -/
abbrev forgets : Fin cfg0.W → Bool := fun
  | ⟨5, _⟩ => true
  | _ => false

/-- The pipeline's proof data: inputs at their blocks, the result unnamed, the plain invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window, -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns. -/
def bodyPost (c : Dev nD) (t : Fin cfg0.N) : sProp 𝕄 :=
  iprop(Pipeline.ΦA spec0 c ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, PhiA_eq]
  iintro ⟨⟨⟨HS0, HS1⟩, Hg⟩, Ho, ⟨%d0, H0⟩, ⟨%d1, H1⟩, ⟨%d2, H2⟩, ⟨%d3, H3⟩, ⟨%d4, H4⟩, H5⟩
  iapply (bodyRun c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, the output forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every fair run terminates with the arguments as launched and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (Pipeline.θ_run_frame_forget cfgs (dats m) (0 : Fin 1) launch0 defs₀ Variants.none forgets m ρ main
      (hbody := fun c => (body_obligation m c).loose) (hshare := fun c => (dats m 0 c).share_full fun _ => rfl)
      (howed := fun _ _ => rfl) (V := V m) (hmain := hmain m Variants.none) (hA := A_eq m) (hΦ := fun _ _ => rfl)
      (Q' := fun r => Pipeline.RDat.FramePost cfg0 (fun c => (dats m 0 c).toRForget forgets) (V m) r ∧ r.2.sem = fun _ => 0)
      (hQ' := fun _ h => h))

end Cert.Kernel.Own

end
-- ==== Proof.Codes.lean ====
/-
  The six-bit codes. A byte of `ql` holds two nibbles, a byte of `qh` four pairs of bits; code `f` of a position is a
  nibble of the first and a pair of the second. The kernel computes four positions at a time on 32-bit words and leaves,
  in each byte of the result, four times the code less 32, as a signed byte; the reference computes on one widened
  integer per position. Both are read here as the same natural number.
-/
module

public import Idealize.ShloMosaic.Lib.BitcastFour
public import Idealize.ShloMosaic.Lib.ValueIdxCore
public import Idealize.ShloMosaic.PureOps.Ideal
public import Mathlib.Tactic.FinCases
public import Mathlib.Tactic.IntervalCases
public import Mathlib.Tactic.NormNum

@[expose] public section

noncomputable section

namespace Cert.Codes

open Idealize.ShloMosaic Idealize.ShloMosaic.ValueIdx

/-- The nibble of `p` that field `f` takes: the low one of fields 0 and 1, the high one of fields 2 and 3. -/
def nib (f : Fin 4) (p : BitVec 8) : ℕ := if f.val < 2 then p.toNat % 16 else p.toNat / 16

/-- The pair of bits of `q` that field `f` takes. -/
def top (f : Fin 4) (q : BitVec 8) : ℕ := q.toNat / 4 ^ f.val % 4

/-- The code. -/
def code (f : Fin 4) (p q : BitVec 8) : ℕ := nib f p + 16 * top f q

/-- The kernel's word of field `f`, of the word `p` of `ql` bytes and the word `q` of `qh` bytes. -/
def word (f : Fin 4) (p q : BitVec 32) : BitVec 32 :=
  match f with
  | ⟨0, _⟩ => ((p <<< 2) &&& 1010580540#32) ||| (((q ^^^ 2863311530#32) <<< 6) &&& 3233857728#32)
  | ⟨1, _⟩ => ((p <<< 2) &&& 1010580540#32) ||| (((q ^^^ 2863311530#32) <<< 4) &&& 3233857728#32)
  | ⟨2, _⟩ => ((p >>> 2) &&& 1010580540#32) ||| (((q ^^^ 2863311530#32) <<< 2) &&& 3233857728#32)
  | ⟨3, _⟩ => ((p >>> 2) &&& 1010580540#32) ||| ((q ^^^ 2863311530#32) &&& 3233857728#32)

/-- The same expression on single bytes: what the word holds in each of its bytes. -/
def codeLow (f : Fin 4) (p : BitVec 8) : BitVec 8 :=
  match f with
  | ⟨0, _⟩ | ⟨1, _⟩ => (p <<< 2) &&& 60#8
  | ⟨2, _⟩ | ⟨3, _⟩ => (p >>> 2) &&& 60#8

def codeHigh (f : Fin 4) (q : BitVec 8) : BitVec 8 :=
  match f with
  | ⟨0, _⟩ => ((q ^^^ 170#8) <<< 6) &&& 192#8
  | ⟨1, _⟩ => ((q ^^^ 170#8) <<< 4) &&& 192#8
  | ⟨2, _⟩ => ((q ^^^ 170#8) <<< 2) &&& 192#8
  | ⟨3, _⟩ => (q ^^^ 170#8) &&& 192#8

/-- The masks keep each byte of the word a function of the same byte of its two operands. -/
theorem word_byte (f b : Fin 4) (p q : BitVec 32) :
    (word f p q).extractLsb' (8 * b.val) 8
      = codeLow f (p.extractLsb' (8 * b.val) 8) ||| codeHigh f (q.extractLsb' (8 * b.val) 8) := by
  apply BitVec.eq_of_getLsbD_eq
  intro i hi
  fin_cases f <;> fin_cases b <;> interval_cases i <;>
    simp [word, codeLow, codeHigh]

theorem codeLow_eq : ∀ (f : Fin 4) (p : BitVec 8), codeLow f p = BitVec.ofNat 8 (4 * nib f p) := by
  unfold codeLow nib; decide +kernel

theorem codeHigh_eq : ∀ (f : Fin 4) (q : BitVec 8), codeHigh f q = BitVec.ofNat 8 (64 * ((top f q + 2) % 4)) := by
  unfold codeHigh top; decide +kernel

theorem nib_lt (f : Fin 4) (p : BitVec 8) : nib f p < 16 := by
  unfold nib; have := p.isLt; split <;> omega

theorem top_lt (f : Fin 4) (q : BitVec 8) : top f q < 4 := by unfold top; exact Nat.mod_lt _ (by decide)

theorem join_toInt : ∀ n : Fin 16, ∀ t : Fin 4,
    (BitVec.ofNat 8 (4 * n.val) ||| BitVec.ofNat 8 (64 * ((t.val + 2) % 4))).toInt = 4 * ((n.val : ℤ) + 16 * t.val - 32) := by
  decide +kernel

/-- Read signed, a byte of the kernel's word is four times the code less 32. -/
theorem byte_toInt (f : Fin 4) (p q : BitVec 8) : (codeLow f p ||| codeHigh f q).toInt = 4 * ((code f p q : ℤ) - 32) := by
  rw [codeLow_eq, codeHigh_eq]
  have h := join_toInt ⟨nib f p, nib_lt f p⟩ ⟨top f q, top_lt f q⟩
  rw [h]; unfold code; push_cast; ring

/-- The reference's integer of field `f`, of the two bytes widened with zeros. -/
def refLow (f : Fin 4) (p : BitVec 8) : BitVec 32 :=
  if f.val < 2 then p.setWidth 32 &&& 15#32 else (p.setWidth 32).sshiftRight' 4#32

def refHigh (f : Fin 4) (q : BitVec 8) : BitVec 32 :=
  match f with
  | ⟨0, _⟩ => (q.setWidth 32 &&& 3#32) <<< 4#32
  | ⟨1, _⟩ => ((q.setWidth 32).sshiftRight' 2#32 &&& 3#32) <<< 4#32
  | ⟨2, _⟩ => ((q.setWidth 32).sshiftRight' 4#32 &&& 3#32) <<< 4#32
  | ⟨3, _⟩ => ((q.setWidth 32).sshiftRight' 6#32 &&& 3#32) <<< 4#32

theorem refLow_eq : ∀ (f : Fin 4) (p : BitVec 8), refLow f p = BitVec.ofNat 32 (nib f p) := by
  unfold refLow nib; decide +kernel

theorem refHigh_eq : ∀ (f : Fin 4) (q : BitVec 8), refHigh f q = BitVec.ofNat 32 (16 * top f q) := by
  unfold refHigh top; decide +kernel

theorem ref_join_toInt : ∀ n : Fin 16, ∀ t : Fin 4,
    (BitVec.ofNat 32 n.val ||| BitVec.ofNat 32 (16 * t.val)).toInt = (n.val : ℤ) + 16 * t.val := by
  decide +kernel

/-- Read signed, the reference's integer is the code. -/
theorem ref_toInt (f : Fin 4) (p q : BitVec 8) : (refLow f p ||| refHigh f q).toInt = (code f p q : ℤ) := by
  rw [refLow_eq, refHigh_eq]
  have h := ref_join_toInt ⟨nib f p, nib_lt f p⟩ ⟨top f q, top_lt f q⟩
  rw [h]; unfold code; push_cast; ring

/-! ### Words of four rows -/

/-- A byte of the word read off four rows of bytes is the byte of its row. -/
theorem bitcast_8_32_byte {R r n : ℕ} (x : (⟨2, ![R, n]⟩ : Shape).Idx → BitVec 8)
    (h : (⟨2, ![R, n]⟩ : Shape).Bitcasts 8 ⟨2, ![r, n]⟩ 32) (a : Fin r) (l : Fin n) (b : Fin 4) (p : Fin R)
    (hp : p.val = 4 * a.val + b.val) :
    (bitcast ⟨2, ![r, n]⟩ 32 x h (ix2 a l)).extractLsb' (8 * b.val) 8 = x (ix2 p l) := by
  apply BitVec.eq_of_getLsbD_eq
  intro i hi
  rw [BitVec.getLsbD_extractLsb', decide_eq_true hi, Bool.true_and,
    bitcast_8_32_getLsbD_ix2 x h a l (8 * b.val + i) (by omega) p (by omega)]
  congr 1; omega

/-- A row of bytes read back off a word is the word's byte. -/
theorem bitcast_32_8_ix2 {R r n : ℕ} (x : (⟨2, ![r, n]⟩ : Shape).Idx → BitVec 32)
    (h : (⟨2, ![r, n]⟩ : Shape).Bitcasts 32 ⟨2, ![R, n]⟩ 8) (p : Fin R) (l : Fin n) (a : Fin r) (b : Fin 4)
    (hp : p.val = 4 * a.val + b.val) :
    bitcast ⟨2, ![R, n]⟩ 8 x h (ix2 p l) = (x (ix2 a l)).extractLsb' (8 * b.val) 8 := by
  apply BitVec.eq_of_getLsbD_eq
  intro i hi
  rw [BitVec.getLsbD_extractLsb', decide_eq_true hi, Bool.true_and, bitcast_getLsbD x h _ i hi (by decide)]
  have hrow : (⟨2, ![R, n]⟩ : Shape).row (ix2 p l) = p.val := rfl
  have e1 : ((⟨2, ![R, n]⟩ : Shape).row (ix2 p l) * 8 + i) / 32 = a.val := by rw [hrow]; omega
  have e2 : ((⟨2, ![R, n]⟩ : Shape).row (ix2 p l) * 8 + i) % 32 = 8 * b.val + i := by rw [hrow]; omega
  rw [e2]
  congr 2
  funext d
  match d with
  | ⟨0, _⟩ =>
    apply Fin.ext
    rw [Shape.Bitcasts.srcIdx_row h _ _ _ _ rfl]; exact e1
  | ⟨1, _⟩ =>
    apply Fin.ext
    rw [Shape.Bitcasts.srcIdx_other h _ _ _ _ (by simp)]; rfl

end Cert.Codes

end
-- ==== Proof.Dequant.lean ====
/-
  The dequantised block. `weight` is the block of weights that one column of grid points multiplies by, stated entry by
  entry over the extended reals: a code less 32, times the scale of its sixteen positions. `piece_apply` reads one store
  of the kernel's loop (sixteen rows) as the same entries: the byte of the kernel's word is four times the code less 32,
  and its row of scales holds a quarter of the scale.
-/
module

public import proofs.«01_k».proof.Proof.Gen.KernelIdeal
public import proofs.«01_k».proof.Proof.Gen.KernelIdeal.Skeleton
public import proofs.«01_k».proof.Proof.Codes
public import Idealize.ShloMosaic.PureOps.Ideal.Laws
public import Idealize.ShloMosaic.Lib.Pipeline.Value

@[expose] public section

set_option maxRecDepth 16384

noncomputable section

namespace Cert.KernelIdeal.Own

open Cert.KernelIdeal.Gen Cert.Codes
open Idealize.ShloMosaic Idealize.ShloMosaic.ValueIdx

/-- A weight: the code less 32, times the product of the block's scale and the sub-block's. -/
def dq (c : ℕ) (d : EReal) (s : BitVec 8) : EReal := (((c : ℝ) - 32 : ℝ) : EReal) * (d * ((s.toInt : ℝ) : EReal))

theorem ofBits_quarter : Ideal.ofBits .f32 0x3E800000#32 = (((1 : ℝ) / 4 : ℝ) : EReal) := by
  simp [Ideal.ofBits, Ideal.ieee]
  rw [← EReal.coe_mul]; norm_num

/-- The kernel's factor of four in the code and of a quarter in the scale cancel. -/
theorem dq_kernel (c : ℕ) (d : EReal) (s : BitVec 8) (b : BitVec 8) (hb : b.toInt = 4 * ((c : ℤ) - 32)) :
    ((b.toInt : ℝ) : EReal) * (d * ((s.toInt : ℝ) : EReal) * Ideal.ofBits .f32 0x3E800000#32) = dq c d s := by
  rw [ofBits_quarter, hb]
  have e : ((4 * ((c : ℤ) - 32) : ℤ) : ℝ) = ((c : ℝ) - 32) * 4 := by push_cast; ring
  rw [e, EReal.coe_mul, mul_mul_mul_comm, ← EReal.coe_mul, show (4 * (1 / 4) : ℝ) = 1 by norm_num, EReal.coe_one, mul_one]
  rfl

/-- The row, in a block of `ql`, of the byte whose nibble is the code of position `k`. -/
def lowRow (k : Fin 6144) : Fin 3072 := ⟨128 * (k.val / 256) + 64 * (k.val % 256 / 128) + 32 * (k.val % 64 / 32) + k.val % 32, by omega⟩
/-- The row of `qh`. -/
def highRow (k : Fin 6144) : Fin 1536 := ⟨64 * (k.val / 256) + 32 * (k.val % 256 / 128) + k.val % 32, by omega⟩
/-- The field. -/
def field (k : Fin 6144) : Fin 4 := ⟨k.val % 128 / 32, by omega⟩
/-- The block of 256 and, in it, the sub-block of 16. -/
def sup (k : Fin 6144) : Fin 24 := ⟨k.val / 256, by omega⟩
def sub (k : Fin 6144) : Fin 16 := ⟨k.val % 256 / 16, by omega⟩

/-- The weights of the block, entry by entry. -/
def weight (X1 : Vec Ideal S3072x512 .i8) (X2 : Vec Ideal S1536x512 .i8) (X3 : Vec Ideal S24x16x512 .i8)
    (X4 : Vec Ideal S24x512 .f16) : Vec Ideal S6144x512 .bf16 := fun y =>
  dq (code (field (y 0)) (X1 (ix2 (lowRow (y 0)) (y 1))) (X2 (ix2 (highRow (y 0)) (y 1))))
    (X4 (ix2 (sup (y 0)) (y 1))) (X3 (ix3 (sup (y 0)) (sub (y 0)) (y 1)))

/-- The kernel's word of field `f`, of four rows each of `ql` and `qh` bytes. -/
def wordV (f : Fin 4) (A Q : IVec S32x512 8) : IVec S8x512 32 :=
  let a := bitcast S8x512 32 (shapeCast S32x512 A shapeCasts_S32x512_S32x512) bitcasts_S32x512_w8_S8x512_w32
  let q := xori (bitcast S8x512 32 (shapeCast S32x512 Q shapeCasts_S32x512_S32x512) bitcasts_S32x512_w8_S8x512_w32) (broadcast S8x512 2863311530#32)
  match f with
  | ⟨0, _⟩ => ori (andi (shli a (broadcast S8x512 2#32)) (broadcast S8x512 1010580540#32)) (andi (shli q (broadcast S8x512 6#32)) (broadcast S8x512 3233857728#32))
  | ⟨1, _⟩ => ori (andi (shli a (broadcast S8x512 2#32)) (broadcast S8x512 1010580540#32)) (andi (shli q (broadcast S8x512 4#32)) (broadcast S8x512 3233857728#32))
  | ⟨2, _⟩ => ori (andi (shrui a (broadcast S8x512 2#32)) (broadcast S8x512 1010580540#32)) (andi (shli q (broadcast S8x512 2#32)) (broadcast S8x512 3233857728#32))
  | ⟨3, _⟩ => ori (andi (shrui a (broadcast S8x512 2#32)) (broadcast S8x512 1010580540#32)) (andi q (broadcast S8x512 3233857728#32))

theorem wordV_apply (f : Fin 4) (A Q : IVec S32x512 8) (x : S8x512.Idx) :
    wordV f A Q x = word f (bitcast S8x512 32 A bitcasts_S32x512_w8_S8x512_w32 x) (bitcast S8x512 32 Q bitcasts_S32x512_w8_S8x512_w32 x) := by
  unfold wordV
  rw [shapeCast_self, shapeCast_self]
  fin_cases f <;> rfl

/-- One store of the loop: rows `o` to `o + 15` of the word's bytes, times a row of scales. -/
def pieceV (o : ℕ) (hs : S32x512.Slices ![o, 0] S16x512) (w : IVec S8x512 32) (row : Vec Ideal S1x512 .f32) : FVec Ideal S16x512 .bf16 :=
  shapeCast S16x512
    (mulf (extractStridedSlice S16x512 ![o, 0] (sitofp .bf16 (bitcast S32x512 8 w bitcasts_S8x512_w32_S32x512_w8) : FVec Ideal S32x512 .bf16) hs)
      (truncf .bf16 (broadcastTo S16x512 (shapeCast S1x512 row shapeCasts_S1x512_S1x512) broadcasts_S1x512_S16x512) bitsLt_bf16_f32))
    shapeCasts_S16x512_S16x512

theorem pieceV_apply (o : ℕ) (hs : S32x512.Slices ![o, 0] S16x512) (w : IVec S8x512 32) (row : Vec Ideal S1x512 .f32)
    (p : Fin 16) (n : Fin 512) (l : Fin 32) (hl : l.val = o + p.val) :
    pieceV o hs w row (ix2 p n)
      = (((bitcast S32x512 8 w bitcasts_S8x512_w32_S32x512_w8 (ix2 l n)).toInt : ℝ) : EReal) * row (ix2 0 n) := by
  unfold pieceV
  rw [shapeCast_self, shapeCast_self]
  show extractStridedSlice S16x512 ![o, 0] (sitofp .bf16 (bitcast S32x512 8 w bitcasts_S8x512_w32_S32x512_w8) : FVec Ideal S32x512 .bf16) hs (ix2 p n)
    * broadcastTo S16x512 row broadcasts_S1x512_S16x512 (ix2 p n) = _
  rw [extractStridedSlice_apply _ _ _ _ (ix2 l n) (by
      intro a; match a with
      | ⟨0, _⟩ => exact hl
      | ⟨1, _⟩ => exact (Nat.zero_add _).symm),
    broadcastTo_apply _ _ _ (ix2 0 n) (by
      intro a; match a with
      | ⟨0, _⟩ => rfl
      | ⟨1, _⟩ => rfl)]
  rfl

/-- A byte of the word, read signed. -/
theorem wordV_byte (f : Fin 4) (A Q : IVec S32x512 8) (l : Fin 32) (n : Fin 512) :
    (bitcast S32x512 8 (wordV f A Q) bitcasts_S8x512_w32_S32x512_w8 (ix2 l n)).toInt
      = 4 * ((code f (A (ix2 l n)) (Q (ix2 l n)) : ℤ) - 32) := by
  have hl : l.val = 4 * (⟨l.val / 4, by omega⟩ : Fin 8).val + (⟨l.val % 4, by omega⟩ : Fin 4).val := by
    show l.val = 4 * (l.val / 4) + l.val % 4; omega
  rw [bitcast_32_8_ix2 (wordV f A Q) _ l n _ _ hl, wordV_apply, word_byte,
    bitcast_8_32_byte A _ _ n _ l hl, bitcast_8_32_byte Q _ _ n _ l hl, byte_toInt]

/-- The row of scales, an entry. -/
theorem scale_apply (d : Vec Ideal S1x512 .f16) (s : Vec Ideal S1x16x512 .i8) (j : Fin 16) (n : Fin 512) :
    k0_pay3 (F := Ideal) d s (ix2 j n)
      = d (ix2 0 n) * (((s (ix3 0 j n)).toInt : ℝ) : EReal) * Ideal.ofBits .f32 0x3E800000#32 := by
  unfold k0_pay3
  rw [shapeCast_self, shapeCast_self]
  show broadcastTo S16x512 (extf .f32 d bitsLt_f16_f32 : FVec Ideal S1x512 .f32) broadcasts_S1x512_S16x512 (ix2 j n)
    * (((shapeCast S16x512 s shapeCasts_S1x16x512_S16x512 (ix2 j n)).toInt : ℝ) : EReal) * Ideal.ofBits .f32 0x3E800000#32 = _
  rw [broadcastTo_apply _ _ _ (ix2 0 n) (by
      intro a; match a with
      | ⟨0, _⟩ => rfl
      | ⟨1, _⟩ => rfl)]
  rw [shapeCast_apply s _ (ix2 j n) (ix3 0 j n) (by
      rw [Shape.rowMajor_val_three, Shape.rowMajor_val_two]
      show (0 * 16 + j.val) * 512 + n.val = j.val * 512 + n.val
      omega)]
  rfl

/-- One store of the loop is sixteen rows of the block of weights: sub-block `j = 8 h + 2 f + g` of block `k`. -/
theorem piece_apply (X1 : Vec Ideal S3072x512 .i8) (X2 : Vec Ideal S1536x512 .i8) (X3 : Vec Ideal S24x16x512 .i8)
    (X4 : Vec Ideal S24x512 .f16) (k : Fin 24) (h : Fin 2) (f : Fin 4) (g : Fin 2) (o : ℕ) (ho : o = 16 * g.val)
    (hs : S32x512.Slices ![o, 0] S16x512) (A Q : IVec S32x512 8) (row : Vec Ideal S1x512 .f32) (j : Fin 16)
    (hj : j.val = 8 * h.val + 2 * f.val + g.val)
    (hA : ∀ (l : Fin 32) (n : Fin 512), A (ix2 l n) = X1 (ix2 ⟨128 * k.val + 64 * h.val + 32 * (f.val % 2) + l.val, by omega⟩ n))
    (hQ : ∀ (l : Fin 32) (n : Fin 512), Q (ix2 l n) = X2 (ix2 ⟨64 * k.val + 32 * h.val + l.val, by omega⟩ n))
    (hrow : ∀ n : Fin 512, row (ix2 0 n) = X4 (ix2 k n) * (((X3 (ix3 k j n)).toInt : ℝ) : EReal) * Ideal.ofBits .f32 0x3E800000#32)
    (p : Fin 16) (n : Fin 512) (K : Fin 6144) (hK : K.val = 256 * k.val + 16 * j.val + p.val) :
    pieceV o hs (wordV f A Q) row (ix2 p n) = weight X1 X2 X3 X4 (ix2 K n) := by
  rw [pieceV_apply o hs _ row p n ⟨o + p.val, by omega⟩ rfl, hrow,
    dq_kernel _ _ _ _ (wordV_byte f A Q _ n), hA, hQ]
  have e1 : lowRow K = ⟨128 * k.val + 64 * h.val + 32 * (f.val % 2) + (o + p.val), by omega⟩ := Fin.ext (by
    dsimp only [lowRow]; omega)
  have e2 : highRow K = ⟨64 * k.val + 32 * h.val + (o + p.val), by omega⟩ := Fin.ext (by
    dsimp only [highRow]; omega)
  have e3 : field K = f := Fin.ext (by dsimp only [field]; omega)
  have e4 : sup K = k := Fin.ext (by dsimp only [sup]; omega)
  have e5 : sub K = j := Fin.ext (by dsimp only [sub]; omega)
  show _ = dq (code (field K) (X1 (ix2 (lowRow K) n)) (X2 (ix2 (highRow K) n))) (X4 (ix2 (sup K) n)) (X3 (ix3 (sup K) (sub K) n))
  rw [e1, e2, e3, e4, e5]

end Cert.KernelIdeal.Own

end
-- ==== Proof.Fill.lean ====
/-
  The loop that fills the scratch block. Each of its twenty-four trips makes sixteen stores of sixteen rows; the stores
  of a trip are one family over the sub-blocks, every one agrees with the block of weights, and together the trips cover
  the block: after the loop the scratch buffer reads the weights, whatever it held before.
-/
module

public import proofs.«01_k».proof.Proof.Gen.KernelIdeal
public import proofs.«01_k».proof.Proof.Gen.KernelIdeal.Loops
public import proofs.«01_k».proof.Proof.Dequant
public import Idealize.ShloMosaic.Lib.Writes
public import Idealize.ShloMosaic.Lib.WholeRead

@[expose] public section

set_option maxRecDepth 16384

noncomputable section

namespace Cert.KernelIdeal.Own

open Cert.KernelIdeal.Gen Cert.Codes
open Idealize.ShloMosaic Idealize.ShloMosaic.TcCoe Idealize.ShloMosaic.ValueIdx

/-- The two cuts of a block of thirty-two rows into sixteen. -/
theorem slices_half (g : Fin 2) : S32x512.Slices ![16 * g.val, 0] S16x512 := by
  fin_cases g
  · exact slices_S32x512_o0_0_S16x512
  · exact slices_S32x512_o16_0_S16x512

section Loads

variable (i : grid0.Coords) (k0_h1 : k0_cond1 i = 1#1) (k : Fin k0_t1_loop.trips)
  (arg3 : Memref sig .tc .vmem S3072x512 .i8) (harg3 : arg3.IsWhole) (arg4 : Memref sig .tc .vmem S1536x512 .i8) (harg4 : arg4.IsWhole)
  (arg5 : Memref sig .tc .vmem S24x16x512 .i8) (harg5 : arg5.IsWhole) (arg6 : Memref sig .tc .vmem S24x512 .f16) (harg6 : arg6.IsWhole)
  (arg9 : Memref sig .tc .vmem S16x512 .f32)
  (x1 : Vec Ideal S3072x512 .i8) (x2 : Vec Ideal S1536x512 .i8) (x3 : Vec Ideal S24x16x512 .i8) (x4 : Vec Ideal S24x512 .f16)

/-- The rows of `ql` that half `h`, field `f` loads: the first thirty-two of the half's sixty-four, or the last. -/
def lowLoad (h : Fin 2) (f : Fin 4) : Vec Ideal S32x512 .i8 :=
  match f with
  | ⟨0, _⟩ | ⟨2, _⟩ => arg3.view.readAt (Elt Ideal) (Rect.unit (s := S3072x512) (k0_off3 k (BitVec.ofNat 32 h.val)) S32x512.size (k0_off3_inb i k k0_h1 h)).toLoadRect (harg3.unread x1)
  | ⟨1, _⟩ | ⟨3, _⟩ => arg3.view.readAt (Elt Ideal) (Rect.unit (s := S3072x512) (k0_off4 k (BitVec.ofNat 32 h.val)) S32x512.size (k0_off4_inb i k k0_h1 h)).toLoadRect (harg3.unread x1)

/-- The rows of `qh` that half `h` loads. -/
def highLoad (h : Fin 2) : Vec Ideal S32x512 .i8 :=
  arg4.view.readAt (Elt Ideal) (Rect.unit (s := S1536x512) (k0_off5 k (BitVec.ofNat 32 h.val)) S32x512.size (k0_off5_inb i k k0_h1 h)).toLoadRect (harg4.unread x2)

/-- The sixteen rows of scales that the trip stores first. -/
def scales : Vec Ideal S16x512 .f32 :=
  k0_pay3 (F := Ideal)
    (arg6.view.readAt (Elt Ideal) (Rect.unit (s := S24x512) (k0_off1 k) S1x512.size (k0_off1_inb i k k0_h1)).toLoadRect (harg6.unread x4))
    (arg5.view.readAt (Elt Ideal) (Rect.unit (s := S24x16x512) (k0_off2 k) S1x16x512.size (k0_off2_inb i k k0_h1)).toLoadRect (harg5.unread x3))

theorem zero_inb : ∀ a, (![0, 0] : Fin 2 → ℕ) a + S16x512.size a ≤ S16x512.size a := by decide
theorem row_inb (j : Fin 16) : ∀ a, (![j.val, 0] : Fin 2 → ℕ) a + S1x512.size a ≤ S16x512.size a := by
  intro a; match a with
  | ⟨0, _⟩ => show j.val + 1 ≤ 16; omega
  | ⟨1, _⟩ => show 0 + 512 ≤ 512; omega

/-- Row `j` of them, loaded back. -/
def scaleRow (j : Fin 16) : Vec Ideal S1x512 .f32 :=
  arg9.view.readCov [⟨Rect.unit (s := S16x512) ![0, 0] S16x512.size zero_inb, scales i k0_h1 k arg5 harg5 arg6 harg6 x3 x4⟩]
    (Rect.unit (s := S16x512) ![j.val, 0] S1x512.size (row_inb j)).toLoadRect

/-- Store `j` of the trip. -/
def store (j : Fin 16) : View.Piece (Elt Ideal) S6144x512 .bf16 :=
  ⟨Rect.unit (s := S6144x512) (k0_off6 k (BitVec.ofNat 32 (16 * j.val))) S16x512.size (k0_off6_inb i k k0_h1 j),
    pieceV (16 * (⟨j.val % 2, by omega⟩ : Fin 2).val) (slices_half ⟨j.val % 2, by omega⟩)
      (wordV ⟨j.val % 8 / 2, by omega⟩
        (lowLoad i k0_h1 k arg3 harg3 x1 ⟨j.val / 8, by omega⟩ ⟨j.val % 8 / 2, by omega⟩)
        (highLoad i k0_h1 k arg4 harg4 x2 ⟨j.val / 8, by omega⟩))
      (scaleRow i k0_h1 k arg5 harg5 arg6 harg6 arg9 x3 x4 j)⟩

end Loads

set_option maxHeartbeats 4000000 in
/-- The stores of a trip, last first. -/
theorem trip_eq (𝒱 : Variants) (c : Dev nD) (bd : Option 𝒱.V) (i : grid0.Coords) (arg2 : Memref sig .tc .vmem S1024x6144 .bf16) (harg2 : arg2.IsWhole) (arg3 : Memref sig .tc .vmem S3072x512 .i8) (harg3 : arg3.IsWhole) (arg4 : Memref sig .tc .vmem S1536x512 .i8) (harg4 : arg4.IsWhole) (arg5 : Memref sig .tc .vmem S24x16x512 .i8) (harg5 : arg5.IsWhole) (arg6 : Memref sig .tc .vmem S24x512 .f16) (harg6 : arg6.IsWhole) (arg7 : Memref sig .tc .vmem S1024x512 .bf16) (harg7 : arg7.IsWhole) (arg8 : Memref sig .tc .vmem S6144x512 .bf16) (harg8 : arg8.IsWhole) (arg9 : Memref sig .tc .vmem S16x512 .f32) (harg9 : arg9.IsWhole) (k0_h1 : k0_cond1 i = 1#1)
    (x1 : Vec Ideal S3072x512 .i8) (x2 : Vec Ideal S1536x512 .i8) (x3 : Vec Ideal S24x16x512 .i8) (x4 : Vec Ideal S24x512 .f16)
    (k : Fin k0_t1_loop.trips) (f8 : BufTy.Contents (Elt Ideal) arg8.view.ty) (f9 : BufTy.Contents (Elt Ideal) arg9.view.ty) :
    (trip_k0_t1 (F := Ideal) 𝒱 c bd i arg2 harg2 arg3 harg3 arg4 harg4 arg5 harg5 arg6 harg6 arg7 harg7 arg8 harg8 arg9 harg9 k0_h1
        (harg3.unread x1) (harg4.unread x2) (harg5.unread x3) (harg6.unread x4) k).1 f8 f9
      = [15, 14, 13, 12, 11, 10, 9, 8, 7, 6, 5, 4, 3, 2, 1, 0].map
          (store i k0_h1 k arg3 harg3 arg4 harg4 arg5 harg5 arg6 harg6 arg9 x1 x2 x3 x4) := by
  unfold trip_k0_t1
  rfl

section Values

variable (i : grid0.Coords) (k0_h1 : k0_cond1 i = 1#1) (k : Fin k0_t1_loop.trips)
  (arg3 : Memref sig .tc .vmem S3072x512 .i8) (harg3 : arg3.IsWhole) (arg4 : Memref sig .tc .vmem S1536x512 .i8) (harg4 : arg4.IsWhole)
  (arg5 : Memref sig .tc .vmem S24x16x512 .i8) (harg5 : arg5.IsWhole) (arg6 : Memref sig .tc .vmem S24x512 .f16) (harg6 : arg6.IsWhole)
  (arg9 : Memref sig .tc .vmem S16x512 .f32)
  (x1 : Vec Ideal S3072x512 .i8) (x2 : Vec Ideal S1536x512 .i8) (x3 : Vec Ideal S24x16x512 .i8) (x4 : Vec Ideal S24x512 .f16)

/-- A trip's number is one of twenty-four. -/
theorem trip_lt : k.val < 24 := lt_of_lt_of_le k.isLt k0_t1_abs.2.1

theorem lowLoad_apply (h : Fin 2) (f : Fin 4) (l : Fin 32) (n : Fin 512)
    (K : Fin 3072) (hK : K.val = 128 * k.val + 64 * h.val + 32 * (f.val % 2) + l.val) :
    lowLoad i k0_h1 k arg3 harg3 x1 h f (ix2 l n) = x1 (ix2 K n) := by
  match f, hK with
  | ⟨0, _⟩, hK | ⟨2, _⟩, hK =>
    refine (harg3.readAt_unread _ _ _).trans (congrArg x1 ?_)
    funext a; apply Fin.ext
    match a with
    | ⟨0, _⟩ =>
      show k0_off3 k (BitVec.ofNat 32 h.val) 0 + 1 * l.val = K.val
      rw [k0_off3_eq k h]; show 128 * k.val + 64 * h.val + 1 * l.val = K.val
      simp only [Nat.reduceMod] at hK; omega
    | ⟨1, _⟩ =>
      show k0_off3 k (BitVec.ofNat 32 h.val) 1 + 1 * n.val = n.val
      rw [k0_off3_eq k h]; show 0 + 1 * n.val = n.val; omega
  | ⟨1, _⟩, hK | ⟨3, _⟩, hK =>
    refine (harg3.readAt_unread _ _ _).trans (congrArg x1 ?_)
    funext a; apply Fin.ext
    match a with
    | ⟨0, _⟩ =>
      show k0_off4 k (BitVec.ofNat 32 h.val) 0 + 1 * l.val = K.val
      rw [k0_off4_eq k h]; show 128 * k.val + 64 * h.val + 32 + 1 * l.val = K.val
      simp only [Nat.reduceMod] at hK; omega
    | ⟨1, _⟩ =>
      show k0_off4 k (BitVec.ofNat 32 h.val) 1 + 1 * n.val = n.val
      rw [k0_off4_eq k h]; show 0 + 1 * n.val = n.val; omega

theorem highLoad_apply (h : Fin 2) (l : Fin 32) (n : Fin 512)
    (K : Fin 1536) (hK : K.val = 64 * k.val + 32 * h.val + l.val) :
    highLoad i k0_h1 k arg4 harg4 x2 h (ix2 l n) = x2 (ix2 K n) := by
  refine (harg4.readAt_unread _ _ _).trans (congrArg x2 ?_)
  funext a; apply Fin.ext
  match a with
  | ⟨0, _⟩ =>
    show k0_off5 k (BitVec.ofNat 32 h.val) 0 + 1 * l.val = K.val
    rw [k0_off5_eq k h]; show 64 * k.val + 32 * h.val + 1 * l.val = K.val; omega
  | ⟨1, _⟩ =>
    show k0_off5 k (BitVec.ofNat 32 h.val) 1 + 1 * n.val = n.val
    rw [k0_off5_eq k h]; show 0 + 1 * n.val = n.val; omega

theorem scaleRow_apply (j : Fin 16) (n : Fin 512) :
    scaleRow i k0_h1 k arg5 harg5 arg6 harg6 arg9 x3 x4 j (ix2 0 n)
      = x4 (ix2 ⟨k.val, trip_lt k⟩ n) * (((x3 (ix3 ⟨k.val, trip_lt k⟩ j n)).toInt : ℝ) : EReal) * Ideal.ofBits .f32 0x3E800000#32 := by
  unfold scaleRow
  rw [View.readCov_eq_canon', View.canon_unit_zero (S := S16x512) (by funext a; fin_cases a <;> rfl)]
  have hidx : (Rect.unit (s := S16x512) ![j.val, 0] S1x512.size (row_inb j)).toLoadRect.idx (ix2 0 n) = ix2 j n := by
    funext a; apply Fin.ext
    match a with
    | ⟨0, _⟩ => show j.val + 1 * 0 = j.val; omega
    | ⟨1, _⟩ => show 0 + 1 * n.val = n.val; omega
  show scales i k0_h1 k arg5 harg5 arg6 harg6 x3 x4 _ = _
  rw [hidx]
  unfold scales
  rw [scale_apply]
  congr 1; congr 1
  · refine (harg6.readAt_unread _ _ _).trans (congrArg x4 ?_)
    funext a; apply Fin.ext
    match a with
    | ⟨0, _⟩ => show k0_off1 k 0 + 1 * 0 = k.val; rw [k0_off1_eq k]; rfl
    | ⟨1, _⟩ => exact (congrArg (· + 1 * n.val) (congrFun (k0_off1_eq k) 1)).trans (by simp)
  · refine congrArg (fun b : BitVec 8 => ((b.toInt : ℝ) : EReal)) ((harg5.readAt_unread _ _ _).trans (congrArg x3 ?_))
    funext a; apply Fin.ext
    match a with
    | ⟨0, _⟩ => show k0_off2 k 0 + 1 * 0 = k.val; rw [k0_off2_eq k]; rfl
    | ⟨1, _⟩ => exact (congrArg (· + 1 * j.val) (congrFun (k0_off2_eq k) 1)).trans (by simp)
    | ⟨2, _⟩ => exact (congrArg (· + 1 * n.val) (congrFun (k0_off2_eq k) 2)).trans (by simp)

/-- Every store is the block of weights at its rows. -/
theorem store_ok (j : Fin 16) (x : (store i k0_h1 k arg3 harg3 arg4 harg4 arg5 harg5 arg6 harg6 arg9 x1 x2 x3 x4 j).1.shape.Idx) :
    (store i k0_h1 k arg3 harg3 arg4 harg4 arg5 harg5 arg6 harg6 arg9 x1 x2 x3 x4 j).2 x
      = weight x1 x2 x3 x4 ((store i k0_h1 k arg3 harg3 arg4 harg4 arg5 harg5 arg6 harg6 arg9 x1 x2 x3 x4 j).1.emb x) := by
  obtain ⟨p, n, hx⟩ : ∃ (p : Fin 16) (n : Fin 512), x = (ix2 p n : S16x512.Idx) := ⟨x 0, x 1, by
    funext a; match a with
    | ⟨0, _⟩ => rfl
    | ⟨1, _⟩ => rfl⟩
  have hk := trip_lt k
  have hx0 : x = (ix2 p n : S16x512.Idx) := hx
  subst hx0
  refine (piece_apply x1 x2 x3 x4 ⟨k.val, hk⟩ ⟨j.val / 8, by omega⟩ ⟨j.val % 8 / 2, by omega⟩ ⟨j.val % 2, by omega⟩ _ rfl _ _ _ _ j
    (by dsimp only; omega)
    (fun l n => lowLoad_apply i k0_h1 k arg3 harg3 x1 _ _ l n _ rfl)
    (fun l n => highLoad_apply i k0_h1 k arg4 harg4 x2 _ l n _ rfl)
    (fun n => scaleRow_apply i k0_h1 k arg5 harg5 arg6 harg6 arg9 x3 x4 j n)
    p n ⟨256 * k.val + 16 * j.val + p.val, by omega⟩ rfl).trans (congrArg (weight x1 x2 x3 x4) ?_)
  funext a; apply Fin.ext
  match a with
  | ⟨0, _⟩ => exact (by simp : _ = (256 * k.val + 16 * j.val) + 1 * p.val).trans (congrArg (· + 1 * p.val) (congrFun (k0_off6_eq k j) 0)).symm
  | ⟨1, _⟩ => exact (by simp : _ = 0 + 1 * n.val).trans (congrArg (· + 1 * n.val) (congrFun (k0_off6_eq k j) 1)).symm

/-- The store that holds row `y` of trip `k`'s two hundred and fifty-six. -/
theorem mem_store (y : S6144x512.Idx) (j : Fin 16) (hj : (y 0).val / 16 = 16 * k.val + j.val) :
    y ∈ (store i k0_h1 k arg3 harg3 arg4 harg4 arg5 harg5 arg6 harg6 arg9 x1 x2 x3 x4 j).1.set := by
  show y ∈ (Rect.unit (s := S6144x512) (k0_off6 k (BitVec.ofNat 32 (16 * j.val))) S16x512.size (k0_off6_inb i k k0_h1 j)).set
  refine Rect.mem_set_unit.2 fun a => ?_
  rw [k0_off6_eq k j]
  match a with
  | ⟨0, _⟩ =>
    show 256 * k.val + 16 * j.val ≤ (y 0).val ∧ (y 0).val < 256 * k.val + 16 * j.val + 16
    omega
  | ⟨1, _⟩ =>
    show 0 ≤ (y 1).val ∧ (y 1).val < 0 + 512
    have := (y 1).isLt
    exact ⟨Nat.zero_le _, by simpa using this⟩

end Values

/-- The stores of the first `n` trips: each agrees with the weights, and they hold every row under `256 * n`. -/
theorem stores_ok (𝒱 : Variants) (c : Dev nD) (bd : Option 𝒱.V) (i : grid0.Coords) (arg2 : Memref sig .tc .vmem S1024x6144 .bf16) (harg2 : arg2.IsWhole) (arg3 : Memref sig .tc .vmem S3072x512 .i8) (harg3 : arg3.IsWhole) (arg4 : Memref sig .tc .vmem S1536x512 .i8) (harg4 : arg4.IsWhole) (arg5 : Memref sig .tc .vmem S24x16x512 .i8) (harg5 : arg5.IsWhole) (arg6 : Memref sig .tc .vmem S24x512 .f16) (harg6 : arg6.IsWhole) (arg7 : Memref sig .tc .vmem S1024x512 .bf16) (harg7 : arg7.IsWhole) (arg8 : Memref sig .tc .vmem S6144x512 .bf16) (harg8 : arg8.IsWhole) (arg9 : Memref sig .tc .vmem S16x512 .f32) (harg9 : arg9.IsWhole) (k0_h1 : k0_cond1 i = 1#1)
    (x1 : Vec Ideal S3072x512 .i8) (x2 : Vec Ideal S1536x512 .i8) (x3 : Vec Ideal S24x16x512 .i8) (x4 : Vec Ideal S24x512 .f16)
    (f8 : BufTy.Contents (Elt Ideal) arg8.view.ty) (f9 : BufTy.Contents (Elt Ideal) arg9.view.ty) (n : ℕ) (hn : n ≤ k0_t1_loop.trips) :
    (∀ p ∈ (pb_k0_t1 (F := Ideal) 𝒱 c bd i arg2 harg2 arg3 harg3 arg4 harg4 arg5 harg5 arg6 harg6 arg7 harg7 arg8 harg8 arg9 harg9 k0_h1
        (harg3.unread x1) (harg4.unread x2) (harg5.unread x3) (harg6.unread x4) f8 f9 n).1, ∀ x, p.2 x = weight x1 x2 x3 x4 (p.1.emb x))
    ∧ ∀ y : S6144x512.Idx, (y 0).val < 256 * n →
        ∃ p ∈ (pb_k0_t1 (F := Ideal) 𝒱 c bd i arg2 harg2 arg3 harg3 arg4 harg4 arg5 harg5 arg6 harg6 arg7 harg7 arg8 harg8 arg9 harg9 k0_h1
          (harg3.unread x1) (harg4.unread x2) (harg5.unread x3) (harg6.unread x4) f8 f9 n).1, y ∈ p.1.set := by
  induction n with
  | zero => exact ⟨fun p hp => absurd hp List.not_mem_nil, fun y hy => absurd hy (by omega)⟩
  | succ n ih =>
    obtain ⟨ih1, ih2⟩ := ih (by omega)
    have hs := pb_k0_t1_succ (F := Ideal) 𝒱 c bd i arg2 harg2 arg3 harg3 arg4 harg4 arg5 harg5 arg6 harg6 arg7 harg7 arg8 harg8 arg9 harg9 k0_h1
        (harg3.unread x1) (harg4.unread x2) (harg5.unread x3) (harg6.unread x4) f8 f9 ⟨n, by omega⟩
    dsimp only at hs
    rw [hs]
    dsimp only
    rw [trip_eq]
    refine ⟨fun p hp => ?_, fun y hy => ?_⟩
    · rcases List.mem_append.1 hp with hp | hp
      · obtain ⟨j, -, rfl⟩ := List.mem_map.1 hp
        exact store_ok i k0_h1 ⟨n, by omega⟩ arg3 harg3 arg4 harg4 arg5 harg5 arg6 harg6 arg9 x1 x2 x3 x4 j
      · exact ih1 p hp
    · by_cases hlt : (y 0).val < 256 * n
      · obtain ⟨p, hp, hy⟩ := ih2 y hlt
        exact ⟨p, List.mem_append_right _ hp, hy⟩
      · refine ⟨_, List.mem_append_left _ (List.mem_map_of_mem (a := (⟨(y 0).val / 16 % 16, by omega⟩ : Fin 16)) ?_), ?_⟩
        · exact (by decide : ∀ j : Fin 16, j ∈ ([15, 14, 13, 12, 11, 10, 9, 8, 7, 6, 5, 4, 3, 2, 1, 0] : List (Fin 16))) _
        · exact mem_store i k0_h1 ⟨n, by omega⟩ arg3 harg3 arg4 harg4 arg5 harg5 arg6 harg6 arg9 x1 x2 x3 x4 y _ (by dsimp only; omega)

/-- After the loop the scratch buffer reads the block of weights. -/
theorem fill_ok (𝒱 : Variants) (c : Dev nD) (bd : Option 𝒱.V) (i : grid0.Coords) (arg2 : Memref sig .tc .vmem S1024x6144 .bf16) (harg2 : arg2.IsWhole) (arg3 : Memref sig .tc .vmem S3072x512 .i8) (harg3 : arg3.IsWhole) (arg4 : Memref sig .tc .vmem S1536x512 .i8) (harg4 : arg4.IsWhole) (arg5 : Memref sig .tc .vmem S24x16x512 .i8) (harg5 : arg5.IsWhole) (arg6 : Memref sig .tc .vmem S24x512 .f16) (harg6 : arg6.IsWhole) (arg7 : Memref sig .tc .vmem S1024x512 .bf16) (harg7 : arg7.IsWhole) (arg8 : Memref sig .tc .vmem S6144x512 .bf16) (harg8 : arg8.IsWhole) (arg9 : Memref sig .tc .vmem S16x512 .f32) (harg9 : arg9.IsWhole) (k0_h1 : k0_cond1 i = 1#1)
    (x1 : Vec Ideal S3072x512 .i8) (x2 : Vec Ideal S1536x512 .i8) (x3 : Vec Ideal S24x16x512 .i8) (x4 : Vec Ideal S24x512 .f16)
    (f8 : BufTy.Contents (Elt Ideal) arg8.view.ty) (f9 : BufTy.Contents (Elt Ideal) arg9.view.ty) (n : ℕ) (hn : n = k0_t1_loop.trips) :
    arg8.view.read (Elt Ideal) (arg8.view.writes (Elt Ideal) f8 (pb_k0_t1 (F := Ideal) 𝒱 c bd i arg2 harg2 arg3 harg3 arg4 harg4 arg5 harg5 arg6 harg6 arg7 harg7 arg8 harg8 arg9 harg9 k0_h1
        (harg3.unread x1) (harg4.unread x2) (harg5.unread x3) (harg6.unread x4) f8 f9 n).1) = weight x1 x2 x3 x4 := by
  have h := stores_ok 𝒱 c bd i arg2 harg2 arg3 harg3 arg4 harg4 arg5 harg5 arg6 harg6 arg7 harg7 arg8 harg8 arg9 harg9 k0_h1 x1 x2 x3 x4 f8 f9 n hn.le
  have h24 : k0_t1_loop.trips = 24 := by decide
  funext y
  refine View.read_writes_apply_of_pieces _ _ _ _ h.1 y (h.2 y ?_)
  have : (y 0).val < 6144 := (y 0).isLt
  omega

end Cert.KernelIdeal.Own

end
-- ==== Proof.KernelIdealFrame.lean ====
/-
  The run of the kernel at idealized floats, with its result. A grid point of the first row block fills the scratch
  buffer with the block of weights of its column block; the other points of the column block find it there. Every point
  stores the product of its rows of `x` with that block, so the invariant carried from point to point is the scratch
  buffer at the weights of the point before.
-/
module

public import proofs.«01_k».proof.Proof.Gen.KernelIdeal
public import proofs.«01_k».proof.Proof.Gen.KernelIdeal.Loops
public import proofs.«01_k».proof.Proof.Gen.KernelIdeal.Frame
public import proofs.«01_k».proof.Proof.Fill
public import Idealize.ShloMosaic.Lib.Tactic
public import Idealize.ShloMosaic.Lib.WordCmp
public import Idealize.ShloMosaic.Lib.VecWindow
public import Idealize.ShloMosaic.Lib.Claim
public import Idealize.ShloMosaic.Lib.Pipeline.ValueKit.Geometry
public import Idealize.ShloMosaic.Lib.Pipeline.Kit

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The two scratch operands. -/
abbrev scM0 : Memref sig .tc .vmem S6144x512 .bf16 := Memref.whole cc0_scratch0
abbrev scM1 : Memref sig .tc .vmem S16x512 .f32 := Memref.whole cc0_scratch1

/-- The region's invariant with the two scratch buffers spelt as memrefs. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

set_option maxHeartbeats 4000000 in
/-- One run of the body where its branch is taken: the scratch buffer is filled with the block of weights, and the product with it is stored. -/
theorem runA (c : Dev nD) (i : grid0.Coords) (arg2 : Memref sig .tc .vmem S1024x6144 .bf16) (harg2 : arg2.IsWhole) (arg3 : Memref sig .tc .vmem S3072x512 .i8) (harg3 : arg3.IsWhole) (arg4 : Memref sig .tc .vmem S1536x512 .i8) (harg4 : arg4.IsWhole) (arg5 : Memref sig .tc .vmem S24x16x512 .i8) (harg5 : arg5.IsWhole) (arg6 : Memref sig .tc .vmem S24x512 .f16) (harg6 : arg6.IsWhole) (arg7 : Memref sig .tc .vmem S1024x512 .bf16) (harg7 : arg7.IsWhole) (arg8 : Memref sig .tc .vmem S6144x512 .bf16) (harg8 : arg8.IsWhole) (arg9 : Memref sig .tc .vmem S16x512 .f32) (harg9 : arg9.IsWhole) (hc : k0_cond1 i = 1#1)
    (x0 : Vec Ideal S1024x6144 .bf16) (x1 : Vec Ideal S3072x512 .i8) (x2 : Vec Ideal S1536x512 .i8) (x3 : Vec Ideal S24x16x512 .i8) (x4 : Vec Ideal S24x512 .f16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 (F := Ideal) x0 (weight x1 x2 x3 x4)) ∗ owns (c : Thread nD τ) arg8 fullShare (weight x1 x2 x3 x4) ∗ (∃ d, owns (c : Thread nD τ) arg9 fullShare d)) -∗ K ⟨⟩))
          ⊢ wp frame (wpE (defs₀ (F := Ideal)) Variants.none c none) E (cc0__body i arg2 harg2 arg3 harg3 arg4 harg4 arg5 harg5 arg6 harg6 arg7 harg7 arg8 harg8 arg9 harg9) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_full]; unfold runA.sl.v5
    rw [View.readAt_full, View.readAt_full, harg2.read_unread, fill_ok _ _ _ _ _ _ _ _ _ _ _ _ _ _ _ _ _ _ _ _ _ _ _ _ _ _ _ _ rfl]
  isplitl [HS0]
  · iexists _; isplitr; swap; · iexact HS0
    ipureintro
    exact fill_ok _ _ _ _ _ _ _ _ _ _ _ _ _ _ _ _ _ _ _ _ _ _ _ _ _ _ _ _ rfl
  iexists _, _; isplitr; swap; · iexact HS1
  ipureintro; rfl

set_option maxHeartbeats 4000000 in
/-- One run of the body where its branch is not taken: the product with what the scratch buffer holds is stored. -/
theorem runB (c : Dev nD) (i : grid0.Coords) (arg2 : Memref sig .tc .vmem S1024x6144 .bf16) (harg2 : arg2.IsWhole) (arg3 : Memref sig .tc .vmem S3072x512 .i8) (harg3 : arg3.IsWhole) (arg4 : Memref sig .tc .vmem S1536x512 .i8) (harg4 : arg4.IsWhole) (arg5 : Memref sig .tc .vmem S24x16x512 .i8) (harg5 : arg5.IsWhole) (arg6 : Memref sig .tc .vmem S24x512 .f16) (harg6 : arg6.IsWhole) (arg7 : Memref sig .tc .vmem S1024x512 .bf16) (harg7 : arg7.IsWhole) (arg8 : Memref sig .tc .vmem S6144x512 .bf16) (harg8 : arg8.IsWhole) (arg9 : Memref sig .tc .vmem S16x512 .f32) (harg9 : arg9.IsWhole) (hc : ¬ k0_cond1 i = 1#1)
    (x0 : Vec Ideal S1024x6144 .bf16) (x1 : Vec Ideal S3072x512 .i8) (x2 : Vec Ideal S1536x512 .i8) (x3 : Vec Ideal S24x16x512 .i8) (x4 : Vec Ideal S24x512 .f16) (w : Vec Ideal S6144x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare w ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 (F := Ideal) x0 w) ∗ owns (c : Thread nD τ) arg8 fullShare w ∗ (∃ d, owns (c : Thread nD τ) arg9 fullShare d)) -∗ K ⟨⟩))
          ⊢ wp frame (wpE (defs₀ (F := Ideal)) Variants.none c none) E (cc0__body i arg2 harg2 arg3 harg3 arg4 harg4 arg5 harg5 arg6 harg6 arg7 harg7 arg8 harg8 arg9 harg9) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_full, View.readAt_full, View.readAt_full, harg2.read_unread, harg8.read_unread]
  isplitl [HS0]
  · iexists _; isplitr; swap; · iexact HS0
    ipureintro
    exact harg8.read_unread _
  iexists _, _; isplitr; swap; · iexact HS1
  ipureintro; rfl

/-- The branch is taken at the first point of every column block. -/
theorem hcond (t : Fin cfg0.N) : k0_cond1 (grid0.coords t) = 1#1 ↔ t.val % 6 = 0 := by
  have ht : t.val < 126 := Nat.lt_of_lt_of_eq t.isLt N_0
  have e0 : (grid0.coords t 0).val = t.val / 6 % 21 := Pipeline.Grid.coords_val t 0 (by decide) rfl
  have e1 : (grid0.coords t 1).val = t.val / 1 % 6 := Pipeline.Grid.coords_val t 1 (by decide) rfl
  simp only [k0_cond1, e0, e1]
  word_cmp

theorem coord0 (t : Fin cfg0.N) : (grid0.coords t 0).val = t.val / 6 := by
  have ht : t.val < 126 := Nat.lt_of_lt_of_eq t.isLt N_0
  have e0 : (grid0.coords t 0).val = t.val / 6 % 21 := Pipeline.Grid.coords_val t 0 (by decide) rfl
  omega

theorem coord1 (t : Fin cfg0.N) : (grid0.coords t 1).val = t.val % 6 := by
  have e1 : (grid0.coords t 1).val = t.val / 1 % 6 := Pipeline.Grid.coords_val t 1 (by decide) rfl
  omega

/-- The block of weights of point `t`'s column block. -/
def wAt (c : Dev nD) (t : Fin cfg0.N) : Vec Ideal S6144x512 .bf16 :=
  weight (iblk m c 1 t) (iblk m c 2 t) (iblk m c 3 t) (iblk m c 4 t)

/-- Where an input window's array is indexed by the column block alone, two points of one column block stage one block. -/
theorem wAt_congr (c : Dev nD) (t t' : Fin cfg0.N) (h : grid0.coords t 0 = grid0.coords t' 0) :
    wAt m c t = wAt m c t' := by
  have hc : ∀ a, (![true, false] : Fin 2 → Bool) a = true → grid0.coords t a = grid0.coords t' a := fun a => by
    match a with
    | ⟨0, _⟩ => exact fun _ => h
    | ⟨1, _⟩ => exact fun h => absurd h Bool.false_ne_true
  unfold wAt
  have e1 : (iblk m c 1 t : Vec Ideal S3072x512 .i8) = iblk m c 1 t' := by
    funext y; blk_simp [iblk]
    refine congrArg _ (funext fun a => Fin.ext ?_)
    blk_simp
    rw [show win0_1.index t = win0_1.index t' from hreads0_1 _ _ hc]
  have e2 : (iblk m c 2 t : Vec Ideal S1536x512 .i8) = iblk m c 2 t' := by
    funext y; blk_simp [iblk]
    refine congrArg _ (funext fun a => Fin.ext ?_)
    blk_simp
    rw [show win0_2.index t = win0_2.index t' from hreads0_2 _ _ hc]
  have e3 : (iblk m c 3 t : Vec Ideal S24x16x512 .i8) = iblk m c 3 t' := by
    funext y; blk_simp [iblk]
    refine congrArg _ (funext fun a => Fin.ext ?_)
    blk_simp
    rw [show win0_3.index t = win0_3.index t' from hreads0_3 _ _ hc]
  have e4 : (iblk m c 4 t : Vec Ideal S24x512 .f16) = iblk m c 4 t' := by
    funext y; blk_simp [iblk]
    refine congrArg _ (funext fun a => Fin.ext ?_)
    blk_simp
    rw [show win0_4.index t = win0_4.index t' from hreads0_4 _ _ hc]
  exact congr (congr (congr (congrArg weight e1) e2) e3) e4

/-- The invariant before point `n`: after the first point the scratch buffer holds the weights of the point before. -/
def PhiS (c : Dev nD) : (n : ℕ) → n ≤ cfg0.N → sProp 𝕄
  | 0, _ => Pipeline.ΦA spec0 c
  | n + 1, hn => iprop(iprop(owns (c : Thread nD τ) scM0 fullShare (wAt m c ⟨n, hn⟩) ∗ (∃ d, owns (c : Thread nD τ) scM1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (wAt m c ⟨n, hn⟩) ∗ (∃ d, owns (c : Thread nD τ) scM1 fullShare d)) ∗ (∃ r, prngReg c r)) := rfl

theorem PhiS_pos (c : Dev nD) (n : ℕ) (h : n ≤ cfg0.N) (hz : n ≠ 0) :
    PhiS m c n h = iprop(iprop(owns (c : Thread nD τ) scM0 fullShare (wAt m c ⟨n - 1, by omega⟩) ∗ (∃ d, owns (c : Thread nD τ) scM1 fullShare d)) ∗ (∃ r, prngReg c r)) := by
  cases n with
  | zero => exact absurd rfl hz
  | succ n => rfl

/-- Before any point the invariant gives the two scratch buffers at some contents. -/
theorem PhiS_some (c : Dev nD) (n : ℕ) (h : n ≤ cfg0.N) : PhiS m c n h ⊢ Pipeline.ΦA spec0 c := by
  by_cases hz : n = 0
  · rw [PhiS_zero m c n h hz]
  · rw [PhiS_pos m c n h hz, PhiA_eq]
    iintro ⟨⟨HS0, HS1⟩, Hg⟩
    isplitl [HS0 HS1]
    · isplitl [HS0]
      · iexists _; iexact HS0
      iexact HS1
    iexact Hg

/-- The pipeline's proof data: inputs at their blocks, the result's block the product of the point's rows of `x` with the weights. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (F := Ideal) (iblk m c 0 t) (wAt m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay2 (F := Ideal) (iblk m c 0 t) (wAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ, PhiS_castSucc]
  by_cases h0 : t.val % 6 = 0
  · refine (sep_mono (PhiS_some m c _ _) .rfl).trans ?_
    rw [PhiA_eq]
    unfold wAt
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ ((hcond t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    have hw : wAt m c ⟨t.val - 1, by have := t.isLt; omega⟩ = wAt m c t :=
      wAt_congr m c _ _ (Fin.ext ((coord0 _).trans ((by omega : (t.val - 1) / 6 = t.val / 6).trans (coord0 t).symm)))
    rw [PhiS_pos m c _ _ hz, hw]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((hcond t).mp h)) (iblk m c 0 t) (iblk m c 1 t) (iblk m c 2 t) (iblk m c 3 t) (iblk m c 4 t) (wAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c :=
  (show (dats m 0 c).Φ (Fin.last cfg0.N) = PhiS m c cfg0.N (Nat.le_refl _) from rfl) ▸ PhiS_some m c _ _

set_option backward.isDefEq.respectTransparency.types false in
/-- Every fair run terminates with every window's array at what the proof data leaves there, every other buffer as the
    region found it and every semaphore counter at zero. -/
theorem run_main : θ_run defs (onTc (τ := τ) (main (F := Ideal))) ⟨m, fun _ => 0, ρ⟩
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as launched, and every semaphore counter at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Own

end
-- ==== Proof.Target.lean ====
/-
  The result both programs compute, stated entry by entry over the extended reals: row `r` of `x` against column `n` of
  the dequantised weights, one sum over the 6144 positions.
-/
module

public import proofs.«01_k».proof.Proof.Dequant

@[expose] public section

set_option maxRecDepth 16384

noncomputable section

namespace Cert.KernelIdeal.Own

open Cert.KernelIdeal.Gen Cert.Codes
open Idealize.ShloMosaic Idealize.ShloMosaic.ValueIdx

/-- The half of 128 of position `k` within its block of 256. -/
def half (k : Fin 6144) : Fin 2 := ⟨k.val % 256 / 128, by omega⟩
/-- The place of the byte of `ql` within its half. -/
def lowPos (k : Fin 6144) : Fin 64 := ⟨32 * (k.val % 64 / 32) + k.val % 32, by omega⟩
/-- The place of the byte of `qh`. -/
def highPos (k : Fin 6144) : Fin 32 := ⟨k.val % 32, by omega⟩

/-- The weight at position `k` of output column `n`, from the arguments as given. -/
def entry (QL : Vec Ideal S10752x24x2x64 .i8) (QH : Vec Ideal S10752x24x2x32 .i8) (S : Vec Ideal S10752x24x16 .i8)
    (D : Vec Ideal S10752x24 .f16) (k : Fin 6144) (n : Fin 10752) : EReal :=
  dq (code (field k) (QL (ix4 n (sup k) (half k) (lowPos k))) (QH (ix4 n (sup k) (half k) (highPos k))))
    (D (ix2 n (sup k))) (S (ix3 n (sup k) (sub k)))

/-- The row of `x` as the pair of its first two coordinates. -/
def rowOf (X : Vec Ideal S12x512x6144 .bf16) (r : Fin 6144) (k : Fin 6144) : EReal :=
  X (ix3 ⟨r.val / 512, by omega⟩ ⟨r.val % 512, by omega⟩ k)

/-- The result. -/
def target (X : Vec Ideal S12x512x6144 .bf16) (QL : Vec Ideal S10752x24x2x64 .i8) (QH : Vec Ideal S10752x24x2x32 .i8)
    (S : Vec Ideal S10752x24x16 .i8) (D : Vec Ideal S10752x24 .f16) : Vec Ideal S6144x10752 .bf16 := fun y =>
  ∑ k : Fin 6144, rowOf X (y 0) k * entry QL QH S D k (y 1)

end Cert.KernelIdeal.Own

end
-- ==== Proof.KernelValue.lean ====
/-
  The kernel's result. Each grid point writes one block of the result, every block is written, and an entry of a block is
  the sum over the 6144 positions of `target`: the host lines before the launch only move the arguments.
-/
module

public import proofs.«01_k».proof.Proof.KernelIdealFrame
public import proofs.«01_k».proof.Proof.Target
public import Idealize.ShloMosaic.Lib.MatmulPlain

@[expose] public section

set_option maxRecDepth 16384

noncomputable section

namespace Cert.KernelIdeal.Own

open Cert.KernelIdeal.Gen Cert.Codes
open Idealize.ShloMosaic Idealize.ShloMosaic.TcCoe Idealize.ShloMosaic.Tactic Idealize.ShloMosaic.ValueIdx

variable (m : (ℓ : Loc nD τ sig) → Buf (Elt Ideal) ℓ)

/-! The operands of the launch, from the arguments. -/

theorem V_x (c : Dev nD) : (V m c main_v0 : Vec Ideal S6144x6144 .bf16)
    = shapeCast S6144x6144 (m (c.tc.loc main_arg0) : Vec Ideal S12x512x6144 .bf16) shapeCasts_S12x512x6144_S6144x6144 := by
  unfold_abbrev_sides
  after_results
  rfl

theorem V_ql (c : Dev nD) : (V m c main_v2 : Vec Ideal S3072x10752 .i8)
    = shapeCast S3072x10752 (transpose S24x2x64x10752 [1, 2, 3, 0] (m (c.tc.loc main_arg1) : Vec Ideal S10752x24x2x64 .i8)
        transposes_S10752x24x2x64_S24x2x64x10752_1_2_3_0) shapeCasts_S24x2x64x10752_S3072x10752 := by
  unfold_abbrev_sides
  after_results
  rfl

theorem V_qh (c : Dev nD) : (V m c main_v4 : Vec Ideal S1536x10752 .i8)
    = shapeCast S1536x10752 (transpose S24x2x32x10752 [1, 2, 3, 0] (m (c.tc.loc main_arg2) : Vec Ideal S10752x24x2x32 .i8)
        transposes_S10752x24x2x32_S24x2x32x10752_1_2_3_0) shapeCasts_S24x2x32x10752_S1536x10752 := by
  unfold_abbrev_sides
  after_results
  rfl

theorem V_sc (c : Dev nD) : (V m c main_v5 : Vec Ideal S24x16x10752 .i8)
    = transpose S24x16x10752 [1, 2, 0] (m (c.tc.loc main_arg3) : Vec Ideal S10752x24x16 .i8)
        transposes_S10752x24x16_S24x16x10752_1_2_0 := by
  unfold_abbrev_sides
  after_results

theorem V_d (c : Dev nD) : (V m c main_v6 : Vec Ideal S24x10752 .f16)
    = transpose S24x10752 [1, 0] (m (c.tc.loc main_arg4) : Vec Ideal S10752x24 .f16)
        transposes_S10752x24_S24x10752_1_0 := by
  unfold_abbrev_sides
  after_results

/-! The same, entry by entry. -/

theorem x_apply (X : Vec Ideal S12x512x6144 .bf16) (r k : Fin 6144) :
    shapeCast S6144x6144 X shapeCasts_S12x512x6144_S6144x6144 (ix2 r k) = rowOf X r k :=
  shapeCast_apply X _ _ _ (by
    rw [Shape.rowMajor_val_three, Shape.rowMajor_val_two]
    show (r.val / 512 * 512 + r.val % 512) * 6144 + k.val = r.val * 6144 + k.val
    omega)

theorem ql_apply (Q : Vec Ideal S10752x24x2x64 .i8) (k : Fin 6144) (n : Fin 10752) :
    shapeCast S3072x10752 (transpose S24x2x64x10752 [1, 2, 3, 0] Q transposes_S10752x24x2x64_S24x2x64x10752_1_2_3_0)
      shapeCasts_S24x2x64x10752_S3072x10752 (ix2 (lowRow k) n) = Q (ix4 n (sup k) (half k) (lowPos k)) := by
  rw [shapeCast_apply _ _ _ (ix4 (sup k) (half k) (lowPos k) n) (by
    rw [Shape.rowMajor_val_four, Shape.rowMajor_val_two]
    show ((k.val / 256 * 2 + k.val % 256 / 128) * 64 + (32 * (k.val % 64 / 32) + k.val % 32)) * 10752 + n.val
      = (128 * (k.val / 256) + 64 * (k.val % 256 / 128) + 32 * (k.val % 64 / 32) + k.val % 32) * 10752 + n.val
    omega)]
  refine transpose_apply _ _ _ _ _ fun b => ?_
  match b with
  | ⟨0, _⟩ => rfl
  | ⟨1, _⟩ => rfl
  | ⟨2, _⟩ => rfl
  | ⟨3, _⟩ => rfl

theorem qh_apply (Q : Vec Ideal S10752x24x2x32 .i8) (k : Fin 6144) (n : Fin 10752) :
    shapeCast S1536x10752 (transpose S24x2x32x10752 [1, 2, 3, 0] Q transposes_S10752x24x2x32_S24x2x32x10752_1_2_3_0)
      shapeCasts_S24x2x32x10752_S1536x10752 (ix2 (highRow k) n) = Q (ix4 n (sup k) (half k) (highPos k)) := by
  rw [shapeCast_apply _ _ _ (ix4 (sup k) (half k) (highPos k) n) (by
    rw [Shape.rowMajor_val_four, Shape.rowMajor_val_two]
    show ((k.val / 256 * 2 + k.val % 256 / 128) * 32 + k.val % 32) * 10752 + n.val
      = (64 * (k.val / 256) + 32 * (k.val % 256 / 128) + k.val % 32) * 10752 + n.val
    omega)]
  refine transpose_apply _ _ _ _ _ fun b => ?_
  match b with
  | ⟨0, _⟩ => rfl
  | ⟨1, _⟩ => rfl
  | ⟨2, _⟩ => rfl
  | ⟨3, _⟩ => rfl

theorem sc_apply (S : Vec Ideal S10752x24x16 .i8) (a : Fin 24) (b : Fin 16) (n : Fin 10752) :
    transpose S24x16x10752 [1, 2, 0] S transposes_S10752x24x16_S24x16x10752_1_2_0 (ix3 a b n) = S (ix3 n a b) := by
  refine transpose_apply _ _ _ _ _ fun b => ?_
  match b with
  | ⟨0, _⟩ => rfl
  | ⟨1, _⟩ => rfl
  | ⟨2, _⟩ => rfl

theorem d_apply (D : Vec Ideal S10752x24 .f16) (a : Fin 24) (n : Fin 10752) :
    transpose S24x10752 [1, 0] D transposes_S10752x24_S24x10752_1_0 (ix2 a n) = D (ix2 n a) := by
  refine transpose_apply _ _ _ _ _ fun b => ?_
  match b with
  | ⟨0, _⟩ => rfl
  | ⟨1, _⟩ => rfl

/-- The product a grid point stores, an entry. -/
theorem pay2_apply (x : Vec Ideal S1024x6144 .bf16) (w : Vec Ideal S6144x512 .bf16) (r : Fin 1024) (n : Fin 512) :
    k0_pay2 (F := Ideal) x w (ix2 r n) = ∑ k : Fin 6144, (x (ix2 r k) : EReal) * w (ix2 k n) := by
  unfold k0_pay2
  rw [shapeCast_self]
  show FloatOps.matmul (F := Ideal) (φ₁ := .bf16) (φ₂ := .bf16) (DotDims.plain 1024 6144 512) none x w (constant S1024x512 .f32 0x00000000#32) (ix2 r n) = _
  rw [Ideal.matmul_plain_apply]
  show Ideal.ofBits .f32 0x00000000#32 + _ = _
  rw [Ideal.ofBits_zero_f32, zero_add]

/-! Which block a point takes of each array. -/

theorem index0 : ∀ t : Fin cfg0.N, win0_0.index t = ![t.val % 6, 0] := (by decide +kernel : ∀ t : Fin grid0.N, _)
theorem index1 : ∀ t : Fin cfg0.N, win0_1.index t = ![0, t.val / 6] := (by decide +kernel : ∀ t : Fin grid0.N, _)
theorem index2 : ∀ t : Fin cfg0.N, win0_2.index t = ![0, t.val / 6] := (by decide +kernel : ∀ t : Fin grid0.N, _)
theorem index3 : ∀ t : Fin cfg0.N, win0_3.index t = ![0, 0, t.val / 6] := (by decide +kernel : ∀ t : Fin grid0.N, _)
theorem index4 : ∀ t : Fin cfg0.N, win0_4.index t = ![0, t.val / 6] := (by decide +kernel : ∀ t : Fin grid0.N, _)
theorem index5 : ∀ t : Fin cfg0.N, win0_5.index t = ![t.val % 6, t.val / 6] := (by decide +kernel : ∀ t : Fin grid0.N, _)

/-- The block of `x` at a point: its row block is the point's second coordinate. -/
theorem xblk_apply (c : Dev nD) (t : Fin cfg0.N) (r : Fin 1024) (k R : Fin 6144) (hR : R.val = t.val % 6 * 1024 + r.val) :
    (iblk m c 0 t : Vec Ideal S1024x6144 .bf16) (ix2 r k) = rowOf (m (c.tc.loc main_arg0)) R k := by
  rw [← x_apply, ← V_x]
  blk_simp [iblk]
  refine congrArg _ ?_
  blk_ext [index0, hR]

/-- The block of weights at a point: its column block is the point's first coordinate. -/
theorem wAt_apply (c : Dev nD) (t : Fin cfg0.N) (k : Fin 6144) (n : Fin 512) (N : Fin 10752) (hN : N.val = t.val / 6 * 512 + n.val) :
    wAt m c t (ix2 k n) = entry (m (c.tc.loc main_arg1)) (m (c.tc.loc main_arg2)) (m (c.tc.loc main_arg3)) (m (c.tc.loc main_arg4)) k N := by
  have e1 (a : Fin 3072) : (iblk m c 1 t : Vec Ideal S3072x512 .i8) (ix2 a n) = (V m c main_v2 : Vec Ideal S3072x10752 .i8) (ix2 a N) := by
    blk_simp [iblk]
    refine congrArg _ ?_
    blk_ext [index1, hN]
  have e2 (a : Fin 1536) : (iblk m c 2 t : Vec Ideal S1536x512 .i8) (ix2 a n) = (V m c main_v4 : Vec Ideal S1536x10752 .i8) (ix2 a N) := by
    blk_simp [iblk]
    refine congrArg _ ?_
    blk_ext [index2, hN]
  have e3 (a : Fin 24) (b : Fin 16) : (iblk m c 3 t : Vec Ideal S24x16x512 .i8) (ix3 a b n) = (V m c main_v5 : Vec Ideal S24x16x10752 .i8) (ix3 a b N) := by
    blk_simp [iblk]
    refine congrArg _ ?_
    blk_ext [index3, hN]
  have e4 (a : Fin 24) : (iblk m c 4 t : Vec Ideal S24x512 .f16) (ix2 a n) = (V m c main_v6 : Vec Ideal S24x10752 .f16) (ix2 a N) := by
    blk_simp [iblk]
    refine congrArg _ ?_
    blk_ext [index4, hN]
  show dq (code (field k) ((iblk m c 1 t : Vec Ideal S3072x512 .i8) (ix2 (lowRow k) n)) ((iblk m c 2 t : Vec Ideal S1536x512 .i8) (ix2 (highRow k) n)))
    ((iblk m c 4 t : Vec Ideal S24x512 .f16) (ix2 (sup k) n)) ((iblk m c 3 t : Vec Ideal S24x16x512 .i8) (ix3 (sup k) (sub k) n)) = _
  rw [e1, e2, e3, e4, V_ql, V_qh, V_sc, V_d, ql_apply, qh_apply, sc_apply, d_apply]
  rfl

/-- The array of results after the run. -/
theorem result_eq (c : Dev nD) : (dats m 0 c).arrAt 5 cfg0.N
    = target (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp
  rw [after0_5]
  obtain ⟨r, n, rfl⟩ : ∃ (r : Fin 1024) (n : Fin 512), y = ix2 r n := ⟨y 0, y 1, eq_ix2 y⟩
  rw [pay2_apply]
  have ht : t.val < 126 := Nat.lt_of_lt_of_eq t.isLt N_0
  generalize hz : (win0_5.blk t).view.emb (ix2 r n) = z
  have h0 : (z 0).val = t.val % 6 * 1024 + r.val := by subst hz; blk_simp [index5]; first | done | rfl
  have h1 : (z 1).val = t.val / 6 * 512 + n.val := by subst hz; blk_simp [index5]; first | done | rfl
  show _ = (∑ k : Fin 6144, rowOf (m (c.tc.loc main_arg0)) (z 0) k
    * entry (m (c.tc.loc main_arg1)) (m (c.tc.loc main_arg2)) (m (c.tc.loc main_arg3)) (m (c.tc.loc main_arg4)) k (z 1) : EReal)
  refine Finset.sum_congr (M := EReal) rfl fun k _ => ?_
  rw [xblk_apply m c t r k (z 0) h0, wAt_apply m c t k n (z 1) h1]

/-- Every fair run ends with the result at `target` of the arguments. -/
theorem value_run (ρ : Dev nD → PrngReg) : θ_run defs (onTc (τ := τ) (main (F := Ideal))) ⟨m, fun _ => 0, ρ⟩ (fun r => ∀ c : Dev nD,
      r.2.mem ((c.tc : Thread nD τ).loc main_v7)
        = target (m (c.tc.loc main_arg0)) (m (c.tc.loc main_arg1)) (m (c.tc.loc main_arg2)) (m (c.tc.loc main_arg3)) (m (c.tc.loc main_arg4))) :=
  (θ_run defs _ _).mono (fun _ h c => ((h.1 c).1 5).trans (result_eq m c)) (run_main m ρ)

end Cert.KernelIdeal.Own

end
-- ==== Proof.ReferenceTerm.lean ====
/-
  The reference's result as a term. The fields of 32 positions are treated alike, so the term is stated once for a field:
  its codes, its weights, its rows of `x`, its product; the result is the sum of the four products.
-/
module

public import proofs.«01_k».proof.Proof.Gen.ReferenceIdeal
public import proofs.«01_k».proof.Proof.Gen.ReferenceIdeal.Frame
public import Idealize.ShloMosaic.Lib.StableHlo.RunRead
public import Idealize.ShloMosaic.Lib.Pipeline.ValueKit.Geometry
public import Idealize.ShloMosaic.Lib.Pipeline.Value
public import Idealize.ShloMosaic.PureOps.Ideal.Laws

@[expose] public section

set_option maxRecDepth 16384

noncomputable section

namespace Cert.ReferenceIdeal.Own

open Cert.ReferenceIdeal.Gen
open Idealize.ShloMosaic Idealize.ShloMosaic.TcCoe Idealize.ShloMosaic.Tactic

/-- A number at every position. -/
abbrev everywhere (w : BitVec 32) : IVec S10752x24x2x32 32 :=
  broadcastInDim S10752x24x2x32 ![] bcast_S_S10752x24x2x32 (constantI S_ 32 w)

/-- The two halves of the bytes of `ql`, and the bytes of `qh`, widened. -/
def lo (QL : IVec S10752x24x2x64 8) : IVec S10752x24x2x32 32 :=
  extui 32 (extractStridedSlice S10752x24x2x32 ![0, 0, 0, 0] QL slices_S10752x24x2x64_S10752x24x2x32_0_0_0_0) natLt_8_32
def hi (QL : IVec S10752x24x2x64 8) : IVec S10752x24x2x32 32 :=
  extui 32 (extractStridedSlice S10752x24x2x32 ![0, 0, 0, 32] QL slices_S10752x24x2x64_S10752x24x2x32_0_0_0_32) natLt_8_32
def tops (QH : IVec S10752x24x2x32 8) : IVec S10752x24x2x32 32 := extui 32 QH natLt_8_32

/-- The codes of a field. -/
def codes (f : Fin 4) (QL : IVec S10752x24x2x64 8) (QH : IVec S10752x24x2x32 8) : IVec S10752x24x2x32 32 :=
  match f with
  | ⟨0, _⟩ => ori (andi (lo QL) (everywhere 15#32)) (Host.shli (andi (tops QH) (everywhere 3#32)) (everywhere 4#32))
  | ⟨1, _⟩ => ori (andi (hi QL) (everywhere 15#32)) (Host.shli (andi (Host.shrsi (tops QH) (everywhere 2#32)) (everywhere 3#32)) (everywhere 4#32))
  | ⟨2, _⟩ => ori (Host.shrsi (lo QL) (everywhere 4#32)) (Host.shli (andi (Host.shrsi (tops QH) (everywhere 4#32)) (everywhere 3#32)) (everywhere 4#32))
  | ⟨3, _⟩ => ori (Host.shrsi (hi QL) (everywhere 4#32)) (Host.shli (andi (Host.shrsi (tops QH) (everywhere 6#32)) (everywhere 3#32)) (everywhere 4#32))

/-- The scales, a pair for each field of each half of each block. -/
def scales (S : IVec S10752x24x16 8) (D : FVec Ideal S10752x24 .f32) : FVec Ideal S10752x24x2x4x2 .bf16 :=
  shapeCast S10752x24x2x4x2
    (truncf .bf16 (mulf (broadcastInDim S10752x24x16 ![0, 1, 2] bcast_S10752x24x1_S10752x24x16_0_1_2
        (broadcastInDim S10752x24x1 ![0, 1] bcast_S10752x24_S10752x24x1_0_1 D))
      (sitofp .f32 (extsi 32 S natLt_8_32) : FVec Ideal S10752x24x16 .f32)) bitsLt_bf16_f32)
    shapeCasts_S10752x24x16_S10752x24x2x4x2

theorem slices_scales : ∀ f : Fin 4, S10752x24x2x4x2.Slices ![0, 0, 0, f.val, 0] S10752x24x2x1x2 := by decide
theorem slices_x : ∀ f : Fin 4, S12x512x24x2x4x32.Slices ![0, 0, 0, 0, f.val, 0] S12x512x24x2x1x32 := by decide

/-- The weights of a field, from its codes. -/
def weights (f : Fin 4) (C : IVec S10752x24x2x32 32) (Z : FVec Ideal S10752x24x2x4x2 .bf16) : FVec Ideal S10752x24x2x32 .bf16 :=
  shapeCast S10752x24x2x32
    (mulf
      (shapeCast S10752x24x2x2x16
        (subf (sitofp .bf16 C : FVec Ideal S10752x24x2x32 .bf16)
          (broadcastInDim S10752x24x2x32 ![] bcast_S_S10752x24x2x32 (constant S_ .bf16 0x4200#16 : FVec Ideal S_ .bf16)))
        shapeCasts_S10752x24x2x32_S10752x24x2x2x16)
      (broadcastInDim S10752x24x2x2x16 ![0, 1, 2, 3, 4] bcast_S10752x24x2x2x1_S10752x24x2x2x16_0_1_2_3_4
        (broadcastInDim S10752x24x2x2x1 ![0, 1, 2, 3] bcast_S10752x24x2x2_S10752x24x2x2x1_0_1_2_3
          (shapeCast S10752x24x2x2 (extractStridedSlice S10752x24x2x1x2 ![0, 0, 0, f.val, 0] Z (slices_scales f))
            shapeCasts_S10752x24x2x1x2_S10752x24x2x2))))
    shapeCasts_S10752x24x2x2x16_S10752x24x2x32

/-- The rows of `x` at a field's positions. -/
def rows (f : Fin 4) (X : FVec Ideal S12x512x6144 .bf16) : FVec Ideal S12x512x24x2x32 .bf16 :=
  shapeCast S12x512x24x2x32
    (extractStridedSlice S12x512x24x2x1x32 ![0, 0, 0, 0, f.val, 0]
      (shapeCast S12x512x24x2x4x32 X shapeCasts_S12x512x6144_S12x512x24x2x4x32) (slices_x f))
    shapeCasts_S12x512x24x2x1x32_S12x512x24x2x32

/-- A field's product. -/
def part (f : Fin 4) (X : FVec Ideal S12x512x6144 .bf16) (QL : IVec S10752x24x2x64 8) (QH : IVec S10752x24x2x32 8)
    (S : IVec S10752x24x16 8) (D : FVec Ideal S10752x24 .f32) : FVec Ideal S12x512x10752 .f32 :=
  Host.dotGeneral dot_S12x512x24x2x32_S10752x24x2x32_S12x512x10752_342_231_01_0_n_n none (rows f X) (weights f (codes f QL QH) (scales S D))

/-- The result. -/
def out (X : FVec Ideal S12x512x6144 .bf16) (QL : IVec S10752x24x2x64 8) (QH : IVec S10752x24x2x32 8)
    (S : IVec S10752x24x16 8) (D : FVec Ideal S10752x24 .f32) : FVec Ideal S6144x10752 .bf16 :=
  shapeCast S6144x10752
    (truncf .bf16 (addf (addf (addf (part 0 X QL QH S D) (part 1 X QL QH S D)) (part 2 X QL QH S D)) (part 3 X QL QH S D)) bitsLt_bf16_f32)
    shapeCasts_S12x512x10752_S6144x10752

set_option maxHeartbeats 4000000 in
/-- The host lines after the launch leave `out` of the arguments and of what the launch left. -/
theorem after_eq (V : Valuation τ sig (Elt Ideal)) :
    StableHlo.after (hostOps1 (F := Ideal)) V (Proc.devRef .tc main_v104)
      = out (V (Proc.devRef .tc main_arg0)) (V (Proc.devRef .tc main_arg1)) (V (Proc.devRef .tc main_arg2))
          (V (Proc.devRef .tc main_arg3)) (V (Proc.devRef .tc main_v0)) := by
  after_reads_simp
  rfl

end Cert.ReferenceIdeal.Own

end
-- ==== Proof.ReferenceValue.lean ====
/-
  The reference's result, entry by entry: the four fields' products, each a sum over blocks, halves and places of 32,
  make up one sum over the 6144 positions, and each term of it is the term of `target`.
-/
module

public import proofs.«01_k».proof.Proof.ReferenceTerm
public import proofs.«01_k».proof.Proof.Target
public import Idealize.ShloMosaic.Lib.ValueIdxRank6
public import Idealize.ShloMosaic.Lib.Claim
public import Idealize.ShloMosaic.Lib.Pipeline.ValueKit.Acc

@[expose] public section

set_option maxRecDepth 16384

noncomputable section

namespace Cert.ReferenceIdeal.Own

open Cert.ReferenceIdeal.Gen Cert.Codes
open Idealize.ShloMosaic Idealize.ShloMosaic.TcCoe Idealize.ShloMosaic.Tactic Idealize.ShloMosaic.ValueIdx
open Cert.KernelIdeal.Own (dq entry rowOf target field sup half sub lowPos highPos)

/-! ### A weight of the reference -/

/-- The position `(block, half, field, place)`. -/
def pos (b : Fin 24) (h : Fin 2) (f : Fin 4) (l : Fin 32) : Fin 6144 := ⟨256 * b.val + 128 * h.val + 32 * f.val + l.val, by omega⟩

theorem ofBits_32 : Ideal.ofBits .bf16 0x4200#16 = ((32 : ℝ) : EReal) := by
  simp [Ideal.ofBits, Ideal.ieee]
  rw [← EReal.coe_mul]; norm_num

theorem lo_apply (QL : IVec S10752x24x2x64 8) (n : Fin 10752) (b : Fin 24) (h : Fin 2) (l : Fin 32) (p : Fin 64) (hp : p.val = l.val) :
    lo QL (ix4 n b h l) = (QL (ix4 n b h p)).setWidth 32 := by
  unfold lo
  rw [extui_apply, extractStridedSlice_apply _ _ _ _ (ix4 n b h p) (by
    intro a
    match a with
    | ⟨0, _⟩ => show n.val = 0 + n.val; omega
    | ⟨1, _⟩ => show b.val = 0 + b.val; omega
    | ⟨2, _⟩ => show h.val = 0 + h.val; omega
    | ⟨3, _⟩ => show p.val = 0 + l.val; omega)]

theorem hi_apply (QL : IVec S10752x24x2x64 8) (n : Fin 10752) (b : Fin 24) (h : Fin 2) (l : Fin 32) (p : Fin 64) (hp : p.val = 32 + l.val) :
    hi QL (ix4 n b h l) = (QL (ix4 n b h p)).setWidth 32 := by
  unfold hi
  rw [extui_apply, extractStridedSlice_apply _ _ _ _ (ix4 n b h p) (by
    intro a
    match a with
    | ⟨0, _⟩ => show n.val = 0 + n.val; omega
    | ⟨1, _⟩ => show b.val = 0 + b.val; omega
    | ⟨2, _⟩ => show h.val = 0 + h.val; omega
    | ⟨3, _⟩ => show p.val = 32 + l.val; omega)]

theorem codes_apply (f : Fin 4) (QL : IVec S10752x24x2x64 8) (QH : IVec S10752x24x2x32 8) (n : Fin 10752) (b : Fin 24) (h : Fin 2) (l : Fin 32) :
    (codes f QL QH (ix4 n b h l)).toInt
      = (code f (QL (ix4 n b h ⟨32 * (f.val % 2) + l.val, by omega⟩)) (QH (ix4 n b h l)) : ℤ) := by
  rw [← ref_toInt]
  refine congrArg BitVec.toInt ?_
  match f with
  | ⟨0, _⟩ => exact congrArg₂ (· ||| ·) (congrArg (· &&& 15#32) (lo_apply QL n b h l _ (by show 32 * 0 + l.val = l.val; omega))) rfl
  | ⟨1, _⟩ => exact congrArg₂ (· ||| ·) (congrArg (· &&& 15#32) (hi_apply QL n b h l _ (by show 32 * 1 + l.val = 32 + l.val; omega))) rfl
  | ⟨2, _⟩ => exact congrArg₂ (· ||| ·) (congrArg (BitVec.sshiftRight' · 4#32) (lo_apply QL n b h l _ (by show 32 * (2 % 2) + l.val = l.val; omega))) rfl
  | ⟨3, _⟩ => exact congrArg₂ (· ||| ·) (congrArg (BitVec.sshiftRight' · 4#32) (hi_apply QL n b h l _ (by show 32 * (3 % 2) + l.val = 32 + l.val; omega))) rfl

theorem scales_apply (S : IVec S10752x24x16 8) (D : FVec Ideal S10752x24 .f32) (n : Fin 10752) (b : Fin 24) (h : Fin 2) (f : Fin 4) (g : Fin 2) :
    scales S D (ix5 n b h f g)
      = (D (ix2 n b) : EReal) * (((S (ix3 n b ⟨8 * h.val + 2 * f.val + g.val, by omega⟩)).toInt : ℝ) : EReal) := by
  unfold scales
  rw [shapeCast_apply _ _ _ (ix3 n b ⟨8 * h.val + 2 * f.val + g.val, by omega⟩) (by
    rw [Shape.rowMajor_val_three, Shape.rowMajor_val_five]
    show (n.val * 24 + b.val) * 16 + (8 * h.val + 2 * f.val + g.val) = (((n.val * 24 + b.val) * 2 + h.val) * 4 + f.val) * 2 + g.val
    omega)]
  show broadcastInDim S10752x24x16 ![0, 1, 2] bcast_S10752x24x1_S10752x24x16_0_1_2
      (broadcastInDim S10752x24x1 ![0, 1] bcast_S10752x24_S10752x24x1_0_1 D) (ix3 n b _)
    * ((((S (ix3 n b _)).signExtend 32).toInt : ℝ) : EReal) = _
  rw [broadcastInDim_apply _ _ _ _ (ix3 n b 0) (by
      intro a
      match a with
      | ⟨0, _⟩ => rfl
      | ⟨1, _⟩ => rfl
      | ⟨2, _⟩ => rfl),
    broadcastInDim_apply _ _ _ _ (ix2 n b) (by
      intro a
      match a with
      | ⟨0, _⟩ => rfl
      | ⟨1, _⟩ => rfl),
    BitVec.toInt_signExtend_of_le (by decide)]

theorem weights_apply (f : Fin 4) (C : IVec S10752x24x2x32 32) (Z : FVec Ideal S10752x24x2x4x2 .bf16)
    (n : Fin 10752) (b : Fin 24) (h : Fin 2) (l : Fin 32) :
    weights f C Z (ix4 n b h l)
      = ((((C (ix4 n b h l)).toInt : ℝ) : EReal) - ((32 : ℝ) : EReal)) * (Z (ix5 n b h f ⟨l.val / 16, by omega⟩) : EReal) := by
  unfold weights
  rw [shapeCast_apply _ _ _ (ix5 n b h ⟨l.val / 16, by omega⟩ ⟨l.val % 16, by omega⟩) (by
    rw [Shape.rowMajor_val_four, Shape.rowMajor_val_five]
    show (((n.val * 24 + b.val) * 2 + h.val) * 2 + l.val / 16) * 16 + l.val % 16 = ((n.val * 24 + b.val) * 2 + h.val) * 32 + l.val
    omega)]
  show shapeCast S10752x24x2x2x16 _ _ (ix5 n b h _ _) * broadcastInDim S10752x24x2x2x16 _ _ _ (ix5 n b h _ _) = _
  rw [shapeCast_apply _ _ _ (ix4 n b h l) (by
    rw [Shape.rowMajor_val_four, Shape.rowMajor_val_five]
    show ((n.val * 24 + b.val) * 2 + h.val) * 32 + l.val = (((n.val * 24 + b.val) * 2 + h.val) * 2 + l.val / 16) * 16 + l.val % 16
    omega),
    broadcastInDim_apply _ _ _ _ (ix5 n b h ⟨l.val / 16, by omega⟩ 0) (by
      intro a
      match a with
      | ⟨0, _⟩ => rfl
      | ⟨1, _⟩ => rfl
      | ⟨2, _⟩ => rfl
      | ⟨3, _⟩ => rfl
      | ⟨4, _⟩ => rfl),
    broadcastInDim_apply _ _ _ _ (ix4 n b h ⟨l.val / 16, by omega⟩) (by
      intro a
      match a with
      | ⟨0, _⟩ => rfl
      | ⟨1, _⟩ => rfl
      | ⟨2, _⟩ => rfl
      | ⟨3, _⟩ => rfl),
    shapeCast_apply _ _ _ (ix5 n b h 0 ⟨l.val / 16, by omega⟩) (by
      rw [Shape.rowMajor_val_four, Shape.rowMajor_val_five]
      show (((n.val * 24 + b.val) * 2 + h.val) * 1 + 0) * 2 + l.val / 16 = ((n.val * 24 + b.val) * 2 + h.val) * 2 + l.val / 16
      omega),
    extractStridedSlice_apply _ _ _ _ (ix5 n b h f ⟨l.val / 16, by omega⟩) (by
      intro a
      match a with
      | ⟨0, _⟩ => show n.val = 0 + n.val; omega
      | ⟨1, _⟩ => show b.val = 0 + b.val; omega
      | ⟨2, _⟩ => show h.val = 0 + h.val; omega
      | ⟨3, _⟩ => show f.val = f.val + 0; omega
      | ⟨4, _⟩ => show l.val / 16 = 0 + l.val / 16; omega)]
  show ((((C (ix4 n b h l)).toInt : ℝ) : EReal) - Ideal.ofBits .bf16 0x4200#16) * _ = _
  rw [ofBits_32]

/-- The reference's weight is the weight of `target`. -/
theorem weight_eq (f : Fin 4) (QL : IVec S10752x24x2x64 8) (QH : IVec S10752x24x2x32 8) (S : IVec S10752x24x16 8)
    (D : FVec Ideal S10752x24 .f32) (n : Fin 10752) (b : Fin 24) (h : Fin 2) (l : Fin 32) :
    weights f (codes f QL QH) (scales S D) (ix4 n b h l) = entry QL QH S D (pos b h f l) n := by
  rw [weights_apply, codes_apply, scales_apply, ← EReal.coe_sub]
  have e1 : field (pos b h f l) = f := Fin.ext (by show (256 * b.val + 128 * h.val + 32 * f.val + l.val) % 128 / 32 = f.val; omega)
  have e2 : sup (pos b h f l) = b := Fin.ext (by show (256 * b.val + 128 * h.val + 32 * f.val + l.val) / 256 = b.val; omega)
  have e3 : half (pos b h f l) = h := Fin.ext (by show (256 * b.val + 128 * h.val + 32 * f.val + l.val) % 256 / 128 = h.val; omega)
  have e4 : lowPos (pos b h f l) = ⟨32 * (f.val % 2) + l.val, by omega⟩ := Fin.ext (by
    show 32 * ((256 * b.val + 128 * h.val + 32 * f.val + l.val) % 64 / 32) + (256 * b.val + 128 * h.val + 32 * f.val + l.val) % 32 = 32 * (f.val % 2) + l.val
    omega)
  have e5 : highPos (pos b h f l) = l := Fin.ext (by show (256 * b.val + 128 * h.val + 32 * f.val + l.val) % 32 = l.val; omega)
  have e6 : sub (pos b h f l) = ⟨8 * h.val + 2 * f.val + l.val / 16, by omega⟩ := Fin.ext (by
    show (256 * b.val + 128 * h.val + 32 * f.val + l.val) % 256 / 16 = 8 * h.val + 2 * f.val + l.val / 16
    omega)
  unfold entry dq
  rw [e1, e2, e3, e4, e5, e6]
  rfl

theorem rows_apply (f : Fin 4) (X : FVec Ideal S12x512x6144 .bf16) (i : Fin 12) (s : Fin 512) (b : Fin 24) (h : Fin 2) (l : Fin 32) :
    rows f X (ix5 i s b h l) = X (ix3 i s (pos b h f l)) := by
  unfold rows
  rw [shapeCast_apply _ _ _ (ix6 i s b h 0 l) (by
      rw [Shape.rowMajor_val_five, Shape.rowMajor_val_six]
      show ((((i.val * 512 + s.val) * 24 + b.val) * 2 + h.val) * 1 + 0) * 32 + l.val = (((i.val * 512 + s.val) * 24 + b.val) * 2 + h.val) * 32 + l.val
      omega),
    extractStridedSlice_apply _ _ _ _ (ix6 i s b h f l) (by
      intro a
      match a with
      | ⟨0, _⟩ => show i.val = 0 + i.val; omega
      | ⟨1, _⟩ => show s.val = 0 + s.val; omega
      | ⟨2, _⟩ => show b.val = 0 + b.val; omega
      | ⟨3, _⟩ => show h.val = 0 + h.val; omega
      | ⟨4, _⟩ => show f.val = f.val + 0; omega
      | ⟨5, _⟩ => show l.val = 0 + l.val; omega),
    shapeCast_apply _ _ _ (ix3 i s (pos b h f l)) (by
      rw [Shape.rowMajor_val_three, Shape.rowMajor_val_six]
      show (i.val * 512 + s.val) * 6144 + (256 * b.val + 128 * h.val + 32 * f.val + l.val)
        = ((((i.val * 512 + s.val) * 24 + b.val) * 2 + h.val) * 4 + f.val) * 32 + l.val
      omega)]

/-! ### The sums -/

/-- A three-axis contraction index is the triple of its coordinates. -/
def contrEquiv3 {sl sr so : Shape} (D : DotDims sl sr so) (n0 n1 n2 : Nat) (hr : D.contr.rank = 3)
    (h0 : D.contr.size ⟨0, by omega⟩ = n0) (h1 : D.contr.size ⟨1, by omega⟩ = n1) (h2 : D.contr.size ⟨2, by omega⟩ = n2) :
    D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

/-- A field's product, an entry. -/
theorem part_apply (f : Fin 4) (X : FVec Ideal S12x512x6144 .bf16) (QL : IVec S10752x24x2x64 8) (QH : IVec S10752x24x2x32 8)
    (S : IVec S10752x24x16 8) (D : FVec Ideal S10752x24 .f32) (i : Fin 12) (s : Fin 512) (n : Fin 10752) :
    part f X QL QH S D (ix3 i s n)
      = ∑ q : Fin 2 × Fin 32 × Fin 24, (X (ix3 i s (pos q.2.2 q.1 f q.2.1)) : EReal) * entry QL QH S D (pos q.2.2 q.1 f q.2.1) n := by
  let G := dot_S12x512x24x2x32_S10752x24x2x32_S12x512x10752_342_231_01_0_n_n
  let e := contrEquiv3 G 2 32 24 rfl rfl rfl rfl
  unfold part
  simp only [Host.dotGeneral]
  rw [Ideal.dotGeneral_apply, ← Equiv.sum_comp e.symm]
  refine Finset.sum_congr rfl fun q _ => ?_
  have el : G.lhsIdx (ix3 i s n) (e.symm q) = ix5 i s q.2.2 q.1 q.2.1 := by
    funext a; apply Fin.ext
    match a with
    | ⟨0, _⟩ => rfl
    | ⟨1, _⟩ => rfl
    | ⟨2, _⟩ => rfl
    | ⟨3, _⟩ => rfl
    | ⟨4, _⟩ => rfl
  have er : G.rhsIdx (ix3 i s n) (e.symm q) = ix4 n q.2.2 q.1 q.2.1 := by
    funext a; apply Fin.ext
    match a with
    | ⟨0, _⟩ => rfl
    | ⟨1, _⟩ => rfl
    | ⟨2, _⟩ => rfl
    | ⟨3, _⟩ => rfl
  rw [el, er, rows_apply, weight_eq]

/-- A position is its field, half, place and block. -/
def posEquiv : Fin 4 × Fin 2 × Fin 32 × Fin 24 ≃ Fin 6144 where
  toFun p := pos p.2.2.2 p.2.1 p.1 p.2.2.1
  invFun k := (field k, half k, highPos k, sup k)
  left_inv p := by
    obtain ⟨f, h, l, b⟩ := p
    refine Prod.ext (Fin.ext ?_) (Prod.ext (Fin.ext ?_) (Prod.ext (Fin.ext ?_) (Fin.ext ?_)))
    · show (256 * b.val + 128 * h.val + 32 * f.val + l.val) % 128 / 32 = f.val; omega
    · show (256 * b.val + 128 * h.val + 32 * f.val + l.val) % 256 / 128 = h.val; omega
    · show (256 * b.val + 128 * h.val + 32 * f.val + l.val) % 32 = l.val; omega
    · show (256 * b.val + 128 * h.val + 32 * f.val + l.val) / 256 = b.val; omega
  right_inv k := Fin.ext (by
    show 256 * (k.val / 256) + 128 * (k.val % 256 / 128) + 32 * (k.val % 128 / 32) + k.val % 32 = k.val
    omega)

/-- The sums of the four fields are one sum over the positions. -/
theorem sum_fields (g : Fin 6144 → EReal) :
    (∑ q : Fin 2 × Fin 32 × Fin 24, g (pos q.2.2 q.1 0 q.2.1)) + (∑ q : Fin 2 × Fin 32 × Fin 24, g (pos q.2.2 q.1 1 q.2.1))
      + (∑ q : Fin 2 × Fin 32 × Fin 24, g (pos q.2.2 q.1 2 q.2.1)) + (∑ q : Fin 2 × Fin 32 × Fin 24, g (pos q.2.2 q.1 3 q.2.1))
      = ∑ k, g k := by
  have e : ∑ k, g k = ∑ f : Fin 4, ∑ q : Fin 2 × Fin 32 × Fin 24, g (pos q.2.2 q.1 f q.2.1) := by
    rw [← Equiv.sum_comp posEquiv g, Fintype.sum_prod_type]
    rfl
  rw [e, Fin.sum_univ_four]

/-- The reference's term is `target`. -/
theorem out_eq (X : FVec Ideal S12x512x6144 .bf16) (QL : IVec S10752x24x2x64 8) (QH : IVec S10752x24x2x32 8)
    (S : IVec S10752x24x16 8) (D : FVec Ideal S10752x24 .f32) : out X QL QH S D = target X QL QH S D := by
  funext y
  obtain ⟨r, n, rfl⟩ : ∃ (r : Fin 6144) (n : Fin 10752), y = ix2 r n := ⟨y 0, y 1, eq_ix2 y⟩
  unfold out
  rw [shapeCast_apply _ _ _ (ix3 ⟨r.val / 512, by omega⟩ ⟨r.val % 512, by omega⟩ n) (by
    rw [Shape.rowMajor_val_three, Shape.rowMajor_val_two]
    show (r.val / 512 * 512 + r.val % 512) * 10752 + n.val = r.val * 10752 + n.val
    omega)]
  show part 0 X QL QH S D (ix3 _ _ n) + part 1 X QL QH S D (ix3 _ _ n) + part 2 X QL QH S D (ix3 _ _ n) + part 3 X QL QH S D (ix3 _ _ n) = _
  rw [part_apply, part_apply, part_apply, part_apply]
  exact sum_fields fun k => (X (ix3 ⟨r.val / 512, by omega⟩ ⟨r.val % 512, by omega⟩ k) : EReal) * entry QL QH S D k n

/-! ### The run -/

variable (m : (ℓ : Loc nD τ sig) → Buf (Elt Ideal) ℓ) (ρ : Dev nD → PrngReg)

/-- The launch leaves the block scales widened, which over the extended reals changes nothing. -/
theorem widened (c : Dev nD) : ((dats (F := Ideal) m 0 c).arrAt 1 cfg0.N : S10752x24.Idx → EReal) = m (c.tc.loc main_arg4) := by
  refine (dats (F := Ideal) m 0 c).arrAt_eq_of_covers 1 _ (by decide +kernel) fun t hf y => ?_
  blk_simp
  rw [after0_1]
  frame_out
  show (iblk (F := Ideal) m c 0 t : Vec Ideal S10752x24 .f16) y = _
  blk_simp [iblk]
  refine congrArg (m (c.tc.loc main_arg4)) ?_
  have i0 : ∀ t : Fin cfg0.N, win0_0.index t = ![0, 0] := (by decide +kernel : ∀ t : Fin grid0.N, _)
  have i1 : ∀ t : Fin cfg0.N, win0_1.index t = ![0, 0] := (by decide +kernel : ∀ t : Fin grid0.N, _)
  blk_ext [i0, i1]

/-- The result after the run. -/
theorem tail_eq (c : Dev nD) : Pipeline.afterTail₀ cfgs (dats (F := Ideal) m) 0 (V0 m) [hostOps1] c main_v104
    = target (m (c.tc.loc main_arg0)) (m (c.tc.loc main_arg1)) (m (c.tc.loc main_arg2)) (m (c.tc.loc main_arg3)) (m (c.tc.loc main_arg4)) := by
  unfold Pipeline.afterTail₀
  rw [List.flatten_cons, List.flatten_nil, List.append_nil, after_eq, out_eq]
  have e0 := Pipeline.withArrays_of_ne spec0 c (V0 m c) (fun w => (dats (F := Ideal) m 0 c).arrAt w cfg0.N) main_arg0 (by exact (by decide : ∀ w, Pipeline.arrRef spec0 w ≠ main_arg0))
  have e1 := Pipeline.withArrays_of_ne spec0 c (V0 m c) (fun w => (dats (F := Ideal) m 0 c).arrAt w cfg0.N) main_arg1 (by exact (by decide : ∀ w, Pipeline.arrRef spec0 w ≠ main_arg1))
  have e2 := Pipeline.withArrays_of_ne spec0 c (V0 m c) (fun w => (dats (F := Ideal) m 0 c).arrAt w cfg0.N) main_arg2 (by exact (by decide : ∀ w, Pipeline.arrRef spec0 w ≠ main_arg2))
  have e3 := Pipeline.withArrays_of_ne spec0 c (V0 m c) (fun w => (dats (F := Ideal) m 0 c).arrAt w cfg0.N) main_arg3 (by exact (by decide : ∀ w, Pipeline.arrRef spec0 w ≠ main_arg3))
  have e4 := Pipeline.withArrays_arr spec0 (by decide) c (V0 m c) (fun w => (dats (F := Ideal) m 0 c).arrAt w cfg0.N) 1
  exact congr (congr (congr (congr (congrArg target e0) e1) e2) e3) (e4.trans (widened m c))

/-- Every fair run ends with the result at `target` of the arguments. -/
theorem value_run : θ_run defs (onTc (τ := τ) (main (F := Ideal))) ⟨m, fun _ => 0, ρ⟩ (fun r => ∀ c : Dev nD,
      r.2.mem ((c.tc : Thread nD τ).loc main_v104)
        = target (m (c.tc.loc main_arg0)) (m (c.tc.loc main_arg1)) (m (c.tc.loc main_arg2)) (m (c.tc.loc main_arg3)) (m (c.tc.loc main_arg4))) :=
  (θ_run defs _ _).mono (fun _ h c =>
    ((h c).2 main_v104 (Pipeline.mem_restRefs_of main_v104 (by decide) (by decide))).trans (tail_eq m c)) (run_main m ρ)

end Cert.ReferenceIdeal.Own

end
-- ==== Proof.Algebraic.lean ====
/- The value claim: over the extended reals the kernel and the reference end with the same result, the one that
   `target` spells out from the five arguments. -/
module

public import proofs.«01_k».proof.Defs
public import proofs.«01_k».proof.Proof.KernelValue
public import proofs.«01_k».proof.Proof.ReferenceValue

@[expose] public section

noncomputable section

namespace Cert.Own

open Idealize.ShloMosaic Idealize.SL.Sem Cert.KernelIdeal.Own

/-- From equal arguments, both programs end with their result at `target` of those arguments and the arguments as
    they were. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => target (m (c.tc.loc Cert.KernelIdeal.main_arg0)) (m (c.tc.loc Cert.KernelIdeal.main_arg1))
    (m (c.tc.loc Cert.KernelIdeal.main_arg2)) (m (c.tc.loc Cert.KernelIdeal.main_arg3)) (m (c.tc.loc Cert.KernelIdeal.main_arg4)), ?_, ?_⟩
  · exact (θ_run _ _ _).mono (fun _ h c => ⟨h.1 c, h.2.1 c⟩)
      (θ_run_and (Cert.KernelIdeal.Own.value_run m g) (Cert.KernelIdeal.Own.frame_run m g))
  · refine (θ_run _ _ _).mono (fun r h c => ⟨(h.1 c).trans ?_, h.2 c⟩)
      (θ_run_and (Cert.ReferenceIdeal.Own.value_run m' g') (Cert.ReferenceIdeal.Gen.unchanged m' g'))
    obtain ⟨e0, e1, e2, e3, e4⟩ := hargs c
    exact congr (congr (congr (congr (congrArg target e0) e1) e2) e3) e4

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Own.frame_run m ρ, fun m ρ _ => Cert.KernelIdeal.Own.frame_run m ρ,
  fun m ρ _ => Cert.ReferenceIdeal.Gen.frame m ρ, trivial, Cert.Own.algebraic⟩

end Cert.Proof

end
